-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 8, 64]⟩ ⟨4, ![2, 4096, 8, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 4096, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x8x64 : Shape := ⟨4, ![2, 128, 8, 64]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x128x8x64 : S_.BroadcastsInDim S2x128x8x64 (![] : Fin 0 → Fin S2x128x8x64.rank)
  reducesTo_S2x128x8x64_S_d0_1_2_3 : S2x128x8x64.ReducesTo [0, 1, 2, 3] S_

variable [Facts]

def fn {F : FTy → Type} [FloatOps F] (main_arg0 : FVec F S2x128x512 .bf16) (main_arg1 : FVec F S512x512 .bf16) (main_arg2 : FVec F S2x128x8x64 .bf16) (main_arg3 : FVec F S2x128x8x64 .bf16) (main_arg4 : FVec F S512x512 .bf16) : IVec S_ 1 :=
  let main_v0 : FVec F S2x128x512 .f32 := (extf .f32 · bitsLt_bf16_f32) main_arg0
  let main_v1 : FVec F S512x512 .f32 := (extf .f32 · bitsLt_bf16_f32) main_arg1
  let main_v2 : FVec F S2x128x8x64 .f32 := (extf .f32 · bitsLt_bf16_f32) main_arg2
  let main_v3 : FVec F S2x128x512 .f32 := Host.absf main_v0
  let main_cst : FVec F S_ .f32 := constant S_ .f32 0x7F800000#32
  let main_v4 : FVec F S2x128x512 .f32 := broadcastInDim S2x128x512 ![] bcast_S_S2x128x512 main_cst
  let main_v5 : IVec S2x128x512 1 := cmpf .olt main_v3 main_v4
  let main_c : IVec S_ 1 := constantI S_ 1 1#1
  let main_v6 : IVec S_ 1 := (fun x v => Host.reduce IntOp.andi x v reducesTo_S2x128x512_S_d0_1_2 h_S_) main_v5 main_c
  let main_v7 : FVec F S512x512 .f32 := Host.absf main_v1
  let main_cst_0 : FVec F S_ .f32 := constant S_ .f32 0x7F800000#32
  let main_v8 : FVec F S512x512 .f32 := broadcastInDim S512x512 ![] bcast_S_S512x512 main_cst_0
  let main_v9 : IVec S512x512 1 := cmpf .olt main_v7 main_v8
  let main_c_1 : IVec S_ 1 := constantI S_ 1 1#1
  let main_v10 : IVec S_ 1 := (fun x v => Host.reduce IntOp.andi x v reducesTo_S512x512_S_d0_1 h_S_) main_v9 main_c_1
  let main_v11 : IVec S_ 1 := andi main_v6 main_v10
  let main_v12 : FVec F S2x128x8x64 .f32 := Host.absf main_v2
  let main_cst_2 : FVec F S_ .f32 := constant S_ .f32 0x7F800000#32
  let main_v13 : FVec F S2x128x8x64 .f32 := broadcastInDim S2x128x8x64 ![] bcast_S_S2x128x8x64 main_cst_2
  let main_v14 : IVec S2x128x8x64 1 := cmpf .olt main_v12 main_v13
  let main_c_3 : IVec S_ 1 := constantI S_ 1 1#1
  let main_v15 : IVec S_ 1 := (fun x v => Host.reduce IntOp.andi x v reducesTo_S2x128x8x64_S_d0_1_2_3 h_S_) main_v14 main_c_3
  let main_v16 : IVec S_ 1 := andi main_v11 main_v15
  main_v16
-- ==== Pre_finite_scores_ReferenceIdeal.lean ====
abbrev S2x4096x512 : Shape := ⟨3, ![2, 4096, 512]⟩
abbrev S512x512 : Shape := ⟨2, ![512, 512]⟩
abbrev S2x4096x8x64 : Shape := ⟨4, ![2, 4096, 8, 64]⟩
abbrev S_ : Shape := ⟨0, ![]⟩

class Facts : Prop where
  bitsLt_bf16_f32 : FTy.bits .bf16 < FTy.bits .f32
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x4096x512 .bf16) (main_arg1 : FVec F S512x512 .bf16) (main_arg2 : FVec F S2x4096x8x64 .bf16) (main_arg3 : FVec F S2x4096x8x64 .bf16) (main_arg4 : FVec F S512x512 .bf16) : IVec S_ 1 :=
  let main_v0 : FVec F S2x4096x512 .f32 := (extf .f32 · bitsLt_bf16_f32) main_arg0
  let main_v1 : FVec F S512x512 .f32 := (extf .f32 · bitsLt_bf16_f32) main_arg1
  let main_v2 : FVec F S2x4096x8x64 .f32 := (extf .f32 · bitsLt_bf16_f32) main_arg2
  let main_v3 : FVec F S2x4096x512 .f32 := Host.absf main_v0
  let main_cst : FVec F S_ .f32 := constant S_ .f32 0x7F800000#32
  let main_v4 : FVec F S2x4096x512 .f32 := broadcastInDim S2x4096x512 ![] bcast_S_S2x4096x512 main_cst
  let main_v5 : IVec S2x4096x512 1 := cmpf .olt main_v3 main_v4
  let main_c : IVec S_ 1 := constantI S_ 1 1#1
  let main_v6 : IVec S_ 1 := (fun x v => Host.reduce IntOp.andi x v reducesTo_S2x4096x512_S_d0_1_2 h_S_) main_v5 main_c
  let main_v7 : FVec F S512x512 .f32 := Host.absf main_v1
  let main_cst_0 : FVec F S_ .f32 := constant S_ .f32 0x7F800000#32
  let main_v8 : FVec F S512x512 .f32 := broadcastInDim S512x512 ![] bcast_S_S512x512 main_cst_0
  let main_v9 : IVec S512x512 1 := cmpf .olt main_v7 main_v8
  let main_c_1 : IVec S_ 1 := constantI S_ 1 1#1
  let main_v10 : IVec S_ 1 := (fun x v => Host.reduce IntOp.andi x v reducesTo_S512x512_S_d0_1 h_S_) main_v9 main_c_1
  let main_v11 : IVec S_ 1 := andi main_v6 main_v10
  let main_v12 : FVec F S2x4096x8x64 .f32 := Host.absf main_v2
  let main_cst_2 : FVec F S_ .f32 := constant S_ .f32 0x7F800000#32
  let main_v13 : FVec F S2x4096x8x64 .f32 := broadcastInDim S2x4096x8x64 ![] bcast_S_S2x4096x8x64 main_cst_2
  let main_v14 : IVec S2x4096x8x64 1 := cmpf .olt main_v12 main_v13
  let main_c_3 : IVec S_ 1 := constantI S_ 1 1#1
  let main_v15 : IVec S_ 1 := (fun x v => Host.reduce IntOp.andi x v reducesTo_S2x4096x8x64_S_d0_1_2_3 h_S_) main_v14 main_c_3
  let main_v16 : IVec S_ 1 := andi main_v11 main_v15
  main_v16
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S32x4x128x512 : Shape := ⟨4, ![32, 4, 128, 512]⟩
abbrev S16x128x64 : Shape := ⟨3, ![16, 128, 64]⟩
abbrev S16x128x1 : Shape := ⟨3, ![16, 128, 1]⟩
abbrev S4x31 : Shape := ⟨2, ![4, 31]⟩
abbrev S_ : Shape := ⟨0, ![]⟩
abbrev S1x128x512 : Shape := ⟨3, ![1, 128, 512]⟩
abbrev S128x512 : Shape := ⟨2, ![128, 512]⟩
abbrev S1x2x128x512 : Shape := ⟨4, ![1, 2, 128, 512]⟩
abbrev S1x1 : Shape := ⟨2, ![1, 1]⟩
abbrev S1x1x128x512 : Shape := ⟨4, ![1, 1, 128, 512]⟩
abbrev S1x128x64 : Shape := ⟨3, ![1, 128, 64]⟩
abbrev S128x64 : Shape := ⟨2, ![128, 64]⟩
abbrev S1x1x128x64 : Shape := ⟨4, ![1, 1, 128, 64]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩
abbrev S64x512 : Shape := ⟨2, ![64, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x8x64, .bf16⟩
  | .hbm, ⟨3, _⟩ => ⟨S2x128x8x64, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x128x8x64, .bf16⟩
  | .local _ .vmem, ⟨4, _⟩ => ⟨S2x128x8x64, .bf16⟩
  | .local _ .vmem, ⟨5, _⟩ => ⟨S2x128x512, .f32⟩
  | .local _ .vmem, ⟨6, _⟩ => ⟨S32x4x128x512, .bf16⟩
  | .local _ .vmem, ⟨7, _⟩ => ⟨S2x128x512, .bf16⟩
  | .local _ .vmem, ⟨8, _⟩ => ⟨S16x128x64, .f32⟩
  | .local _ .vmem, ⟨9, _⟩ => ⟨S16x128x1, .f32⟩
  | _, _ => ⟨S2x128x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 254 → Bool
  | ⟨i, _⟩ => dmaSemScopedAt i

abbrev sig : RefSig :=
  (ofTc nBuf bufTy 1 254 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_4 : BitVec 32 := 1#32
  let v8 : BitVec 32 := Scalar.muli v6 c1_i32_4
  let v9 : BitVec 32 := Scalar.addi c0_i32 v8
  v9.toNat
def k0_dev2 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_52 : BitVec 32 := 1#32
  let v48 : BitVec 32 := Scalar.muli v4 c1_i32_52
  let v49 : BitVec 32 := Scalar.addi c0_i32_53 v48
  v49.toNat
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_66 : BitVec 32 := 1#32
  let v58 : BitVec 32 := Scalar.muli v4 c1_i32_66
  let v59 : BitVec 32 := Scalar.addi c0_i32_67 v58
  v59.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_79 : BitVec 32 := 1#32
  let v68 : BitVec 32 := Scalar.muli v4 c1_i32_79
  let v69 : BitVec 32 := Scalar.addi c0_i32_80 v68
  v69.toNat
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_92 : BitVec 32 := 1#32
  let v78 : BitVec 32 := Scalar.muli v4 c1_i32_92
  let v79 : BitVec 32 := Scalar.addi c0_i32_93 v78
  v79.toNat
def k0_dev6 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_561 : BitVec 32 := 1#32
  let v550 : BitVec 32 := Scalar.muli v4 c1_i32_561
  let v551 : BitVec 32 := Scalar.addi c0_i32_562 v550
  v551.toNat
def k0_dev7 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_602 : BitVec 32 := 1#32
  let v574 : BitVec 32 := Scalar.muli v4 c1_i32_602
  let v575 : BitVec 32 := Scalar.addi c0_i32_603 v574
  v575.toNat
def k0_dev8 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_643 : BitVec 32 := 1#32
  let v598 : BitVec 32 := Scalar.muli v4 c1_i32_643
  let v599 : BitVec 32 := Scalar.addi c0_i32_644 v598
  v599.toNat
def k0_dev9 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_684 : BitVec 32 := 1#32
  let v622 : BitVec 32 := Scalar.muli v4 c1_i32_684
  let v623 : BitVec 32 := Scalar.addi c0_i32_685 v622
  v623.toNat
def k0_dev10 (d0 : Dev nD) : Nat :=
  let c0_i32_1174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1173 : BitVec 32 := 1#32
  let v1094 : BitVec 32 := Scalar.muli v4 c1_i32_1173
  let v1095 : BitVec 32 := Scalar.addi c0_i32_1174 v1094
  v1095.toNat
def k0_dev11 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1214 : BitVec 32 := 1#32
  let v1118 : BitVec 32 := Scalar.muli v4 c1_i32_1214
  let v1119 : BitVec 32 := Scalar.addi c0_i32_1215 v1118
  v1119.toNat
def k0_dev12 (d0 : Dev nD) : Nat :=
  let c0_i32_1256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1255 : BitVec 32 := 1#32
  let v1142 : BitVec 32 := Scalar.muli v4 c1_i32_1255
  let v1143 : BitVec 32 := Scalar.addi c0_i32_1256 v1142
  v1143.toNat
def k0_dev13 (d0 : Dev nD) : Nat :=
  let c0_i32_1297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1296 : BitVec 32 := 1#32
  let v1166 : BitVec 32 := Scalar.muli v4 c1_i32_1296
  let v1167 : BitVec 32 := Scalar.addi c0_i32_1297 v1166
  v1167.toNat
def k0_dev14 (d0 : Dev nD) : Nat :=
  let c0_i32_1785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1784 : BitVec 32 := 1#32
  let v1638 : BitVec 32 := Scalar.muli v4 c1_i32_1784
  let v1639 : BitVec 32 := Scalar.addi c0_i32_1785 v1638
  v1639.toNat
def k0_dev15 (d0 : Dev nD) : Nat :=
  let c0_i32_1826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1825 : BitVec 32 := 1#32
  let v1662 : BitVec 32 := Scalar.muli v4 c1_i32_1825
  let v1663 : BitVec 32 := Scalar.addi c0_i32_1826 v1662
  v1663.toNat
def k0_dev16 (d0 : Dev nD) : Nat :=
  let c0_i32_1867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1866 : BitVec 32 := 1#32
  let v1686 : BitVec 32 := Scalar.muli v4 c1_i32_1866
  let v1687 : BitVec 32 := Scalar.addi c0_i32_1867 v1686
  v1687.toNat
def k0_dev17 (d0 : Dev nD) : Nat :=
  let c0_i32_1908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1907 : BitVec 32 := 1#32
  let v1710 : BitVec 32 := Scalar.muli v4 c1_i32_1907
  let v1711 : BitVec 32 := Scalar.addi c0_i32_1908 v1710
  v1711.toNat
def k0_dev18 (d0 : Dev nD) : Nat :=
  let c0_i32_2396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2395 : BitVec 32 := 1#32
  let v2182 : BitVec 32 := Scalar.muli v4 c1_i32_2395
  let v2183 : BitVec 32 := Scalar.addi c0_i32_2396 v2182
  v2183.toNat
def k0_dev19 (d0 : Dev nD) : Nat :=
  let c0_i32_2437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2436 : BitVec 32 := 1#32
  let v2206 : BitVec 32 := Scalar.muli v4 c1_i32_2436
  let v2207 : BitVec 32 := Scalar.addi c0_i32_2437 v2206
  v2207.toNat
def k0_dev20 (d0 : Dev nD) : Nat :=
  let c0_i32_2478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2477 : BitVec 32 := 1#32
  let v2230 : BitVec 32 := Scalar.muli v4 c1_i32_2477
  let v2231 : BitVec 32 := Scalar.addi c0_i32_2478 v2230
  v2231.toNat
def k0_dev21 (d0 : Dev nD) : Nat :=
  let c0_i32_2519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_2518 : BitVec 32 := 1#32
  let v2254 : BitVec 32 := Scalar.muli v4 c1_i32_2518
  let v2255 : BitVec 32 := Scalar.addi c0_i32_2519 v2254
  v2255.toNat
def k0_dev22 (d0 : Dev nD) : Nat :=
  let c0_i32_3007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_3006 : BitVec 32 := 1#32
  let v2726 : BitVec 32 := Scalar.muli v4 c1_i32_3006
  let v2727 : BitVec 32 := Scalar.addi c0_i32_3007 v2726
  v2727.toNat
def k0_dev23 (d0 : Dev nD) : Nat :=
  let c0_i32_3048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_3047 : BitVec 32 := 1#32
  let v2750 : BitVec 32 := Scalar.muli v4 c1_i32_3047
  let v2751 : BitVec 32 := Scalar.addi c0_i32_3048 v2750
  v2751.toNat
def k0_dev24 (d0 : Dev nD) : Nat :=
  let c0_i32_3089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_3088 : BitVec 32 := 1#32
  let v2774 : BitVec 32 := Scalar.muli v4 c1_i32_3088
  let v2775 : BitVec 32 := Scalar.addi c0_i32_3089 v2774
  v2775.toNat
def k0_dev25 (d0 : Dev nD) : Nat :=
  let c0_i32_3130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_3129 : BitVec 32 := 1#32
  let v2798 : BitVec 32 := Scalar.muli v4 c1_i32_3129
  let v2799 : BitVec 32 := Scalar.addi c0_i32_3130 v2798
  v2799.toNat
def k0_dev26 (d0 : Dev nD) : Nat :=
  let c0_i32_3618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_3617 : BitVec 32 := 1#32
  let v3270 : BitVec 32 := Scalar.muli v4 c1_i32_3617
  let v3271 : BitVec 32 := Scalar.addi c0_i32_3618 v3270
  v3271.toNat
def k0_dev27 (d0 : Dev nD) : Nat :=
  let c0_i32_3659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_3658 : BitVec 32 := 1#32
  let v3294 : BitVec 32 := Scalar.muli v4 c1_i32_3658
  let v3295 : BitVec 32 := Scalar.addi c0_i32_3659 v3294
  v3295.toNat
def k0_dev28 (d0 : Dev nD) : Nat :=
  let c0_i32_3700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_3699 : BitVec 32 := 1#32
  let v3318 : BitVec 32 := Scalar.muli v4 c1_i32_3699
  let v3319 : BitVec 32 := Scalar.addi c0_i32_3700 v3318
  v3319.toNat
def k0_dev29 (d0 : Dev nD) : Nat :=
  let c0_i32_3741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_3740 : BitVec 32 := 1#32
  let v3342 : BitVec 32 := Scalar.muli v4 c1_i32_3740
  let v3343 : BitVec 32 := Scalar.addi c0_i32_3741 v3342
  v3343.toNat
def k0_dev30 (d0 : Dev nD) : Nat :=
  let c0_i32_4229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_4228 : BitVec 32 := 1#32
  let v3814 : BitVec 32 := Scalar.muli v4 c1_i32_4228
  let v3815 : BitVec 32 := Scalar.addi c0_i32_4229 v3814
  v3815.toNat
def k0_dev31 (d0 : Dev nD) : Nat :=
  let c0_i32_4270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_4269 : BitVec 32 := 1#32
  let v3838 : BitVec 32 := Scalar.muli v4 c1_i32_4269
  let v3839 : BitVec 32 := Scalar.addi c0_i32_4270 v3838
  v3839.toNat
def k0_dev32 (d0 : Dev nD) : Nat :=
  let c0_i32_4311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_4310 : BitVec 32 := 1#32
  let v3862 : BitVec 32 := Scalar.muli v4 c1_i32_4310
  let v3863 : BitVec 32 := Scalar.addi c0_i32_4311 v3862
  v3863.toNat
def k0_dev33 (d0 : Dev nD) : Nat :=
  let c0_i32_4352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_4351 : BitVec 32 := 1#32
  let v3886 : BitVec 32 := Scalar.muli v4 c1_i32_4351
  let v3887 : BitVec 32 := Scalar.addi c0_i32_4352 v3886
  v3887.toNat
def k0_dev34 (d0 : Dev nD) : Nat :=
  let c0_i32_4840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_4839 : BitVec 32 := 1#32
  let v4358 : BitVec 32 := Scalar.muli v4 c1_i32_4839
  let v4359 : BitVec 32 := Scalar.addi c0_i32_4840 v4358
  v4359.toNat
def k0_dev35 (d0 : Dev nD) : Nat :=
  let c0_i32_4881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_4880 : BitVec 32 := 1#32
  let v4382 : BitVec 32 := Scalar.muli v4 c1_i32_4880
  let v4383 : BitVec 32 := Scalar.addi c0_i32_4881 v4382
  v4383.toNat
def k0_dev36 (d0 : Dev nD) : Nat :=
  let c0_i32_4922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_4921 : BitVec 32 := 1#32
  let v4406 : BitVec 32 := Scalar.muli v4 c1_i32_4921
  let v4407 : BitVec 32 := Scalar.addi c0_i32_4922 v4406
  v4407.toNat
def k0_dev37 (d0 : Dev nD) : Nat :=
  let c0_i32_4963 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_4962 : BitVec 32 := 1#32
  let v4430 : BitVec 32 := Scalar.muli v4 c1_i32_4962
  let v4431 : BitVec 32 := Scalar.addi c0_i32_4963 v4430
  v4431.toNat
def k0_dev38 (d0 : Dev nD) : Nat :=
  let c0_i32_5451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_5450 : BitVec 32 := 1#32
  let v4902 : BitVec 32 := Scalar.muli v4 c1_i32_5450
  let v4903 : BitVec 32 := Scalar.addi c0_i32_5451 v4902
  v4903.toNat
def k0_dev39 (d0 : Dev nD) : Nat :=
  let c0_i32_5492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_5491 : BitVec 32 := 1#32
  let v4926 : BitVec 32 := Scalar.muli v4 c1_i32_5491
  let v4927 : BitVec 32 := Scalar.addi c0_i32_5492 v4926
  v4927.toNat
def k0_dev40 (d0 : Dev nD) : Nat :=
  let c0_i32_5533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_5532 : BitVec 32 := 1#32
  let v4950 : BitVec 32 := Scalar.muli v4 c1_i32_5532
  let v4951 : BitVec 32 := Scalar.addi c0_i32_5533 v4950
  v4951.toNat
def k0_dev41 (d0 : Dev nD) : Nat :=
  let c0_i32_5574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_5573 : BitVec 32 := 1#32
  let v4974 : BitVec 32 := Scalar.muli v4 c1_i32_5573
  let v4975 : BitVec 32 := Scalar.addi c0_i32_5574 v4974
  v4975.toNat
def k0_dev42 (d0 : Dev nD) : Nat :=
  let c0_i32_6062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_6061 : BitVec 32 := 1#32
  let v5446 : BitVec 32 := Scalar.muli v4 c1_i32_6061
  let v5447 : BitVec 32 := Scalar.addi c0_i32_6062 v5446
  v5447.toNat
def k0_dev43 (d0 : Dev nD) : Nat :=
  let c0_i32_6103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_6102 : BitVec 32 := 1#32
  let v5470 : BitVec 32 := Scalar.muli v4 c1_i32_6102
  let v5471 : BitVec 32 := Scalar.addi c0_i32_6103 v5470
  v5471.toNat
def k0_dev44 (d0 : Dev nD) : Nat :=
  let c0_i32_6144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_6143 : BitVec 32 := 1#32
  let v5494 : BitVec 32 := Scalar.muli v4 c1_i32_6143
  let v5495 : BitVec 32 := Scalar.addi c0_i32_6144 v5494
  v5495.toNat
def k0_dev45 (d0 : Dev nD) : Nat :=
  let c0_i32_6185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_6184 : BitVec 32 := 1#32
  let v5518 : BitVec 32 := Scalar.muli v4 c1_i32_6184
  let v5519 : BitVec 32 := Scalar.addi c0_i32_6185 v5518
  v5519.toNat
def k0_dev46 (d0 : Dev nD) : Nat :=
  let c0_i32_6673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_6672 : BitVec 32 := 1#32
  let v5990 : BitVec 32 := Scalar.muli v4 c1_i32_6672
  let v5991 : BitVec 32 := Scalar.addi c0_i32_6673 v5990
  v5991.toNat
def k0_dev47 (d0 : Dev nD) : Nat :=
  let c0_i32_6714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_6713 : BitVec 32 := 1#32
  let v6014 : BitVec 32 := Scalar.muli v4 c1_i32_6713
  let v6015 : BitVec 32 := Scalar.addi c0_i32_6714 v6014
  v6015.toNat
def k0_dev48 (d0 : Dev nD) : Nat :=
  let c0_i32_6755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_6754 : BitVec 32 := 1#32
  let v6038 : BitVec 32 := Scalar.muli v4 c1_i32_6754
  let v6039 : BitVec 32 := Scalar.addi c0_i32_6755 v6038
  v6039.toNat
def k0_dev49 (d0 : Dev nD) : Nat :=
  let c0_i32_6796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_6795 : BitVec 32 := 1#32
  let v6062 : BitVec 32 := Scalar.muli v4 c1_i32_6795
  let v6063 : BitVec 32 := Scalar.addi c0_i32_6796 v6062
  v6063.toNat
def k0_dev50 (d0 : Dev nD) : Nat :=
  let c0_i32_7284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_7283 : BitVec 32 := 1#32
  let v6534 : BitVec 32 := Scalar.muli v4 c1_i32_7283
  let v6535 : BitVec 32 := Scalar.addi c0_i32_7284 v6534
  v6535.toNat
def k0_dev51 (d0 : Dev nD) : Nat :=
  let c0_i32_7325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_7324 : BitVec 32 := 1#32
  let v6558 : BitVec 32 := Scalar.muli v4 c1_i32_7324
  let v6559 : BitVec 32 := Scalar.addi c0_i32_7325 v6558
  v6559.toNat
def k0_dev52 (d0 : Dev nD) : Nat :=
  let c0_i32_7366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_7365 : BitVec 32 := 1#32
  let v6582 : BitVec 32 := Scalar.muli v4 c1_i32_7365
  let v6583 : BitVec 32 := Scalar.addi c0_i32_7366 v6582
  v6583.toNat
def k0_dev53 (d0 : Dev nD) : Nat :=
  let c0_i32_7407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_7406 : BitVec 32 := 1#32
  let v6606 : BitVec 32 := Scalar.muli v4 c1_i32_7406
  let v6607 : BitVec 32 := Scalar.addi c0_i32_7407 v6606
  v6607.toNat
def k0_dev54 (d0 : Dev nD) : Nat :=
  let c0_i32_7895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_7894 : BitVec 32 := 1#32
  let v7078 : BitVec 32 := Scalar.muli v4 c1_i32_7894
  let v7079 : BitVec 32 := Scalar.addi c0_i32_7895 v7078
  v7079.toNat
def k0_dev55 (d0 : Dev nD) : Nat :=
  let c0_i32_7936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_7935 : BitVec 32 := 1#32
  let v7102 : BitVec 32 := Scalar.muli v4 c1_i32_7935
  let v7103 : BitVec 32 := Scalar.addi c0_i32_7936 v7102
  v7103.toNat
def k0_dev56 (d0 : Dev nD) : Nat :=
  let c0_i32_7977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_7976 : BitVec 32 := 1#32
  let v7126 : BitVec 32 := Scalar.muli v4 c1_i32_7976
  let v7127 : BitVec 32 := Scalar.addi c0_i32_7977 v7126
  v7127.toNat
def k0_dev57 (d0 : Dev nD) : Nat :=
  let c0_i32_8018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8017 : BitVec 32 := 1#32
  let v7150 : BitVec 32 := Scalar.muli v4 c1_i32_8017
  let v7151 : BitVec 32 := Scalar.addi c0_i32_8018 v7150
  v7151.toNat
def k0_dev58 (d0 : Dev nD) : Nat :=
  let c0_i32_8506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8505 : BitVec 32 := 1#32
  let v7622 : BitVec 32 := Scalar.muli v4 c1_i32_8505
  let v7623 : BitVec 32 := Scalar.addi c0_i32_8506 v7622
  v7623.toNat
def k0_dev59 (d0 : Dev nD) : Nat :=
  let c0_i32_8547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8546 : BitVec 32 := 1#32
  let v7646 : BitVec 32 := Scalar.muli v4 c1_i32_8546
  let v7647 : BitVec 32 := Scalar.addi c0_i32_8547 v7646
  v7647.toNat
def k0_dev60 (d0 : Dev nD) : Nat :=
  let c0_i32_8588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8587 : BitVec 32 := 1#32
  let v7670 : BitVec 32 := Scalar.muli v4 c1_i32_8587
  let v7671 : BitVec 32 := Scalar.addi c0_i32_8588 v7670
  v7671.toNat
def k0_dev61 (d0 : Dev nD) : Nat :=
  let c0_i32_8629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8628 : BitVec 32 := 1#32
  let v7694 : BitVec 32 := Scalar.muli v4 c1_i32_8628
  let v7695 : BitVec 32 := Scalar.addi c0_i32_8629 v7694
  v7695.toNat
def k0_dev62 (d0 : Dev nD) : Nat :=
  let c0_i32_9117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_9116 : BitVec 32 := 1#32
  let v8166 : BitVec 32 := Scalar.muli v4 c1_i32_9116
  let v8167 : BitVec 32 := Scalar.addi c0_i32_9117 v8166
  v8167.toNat
def k0_dev63 (d0 : Dev nD) : Nat :=
  let c0_i32_9158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_9157 : BitVec 32 := 1#32
  let v8190 : BitVec 32 := Scalar.muli v4 c1_i32_9157
  let v8191 : BitVec 32 := Scalar.addi c0_i32_9158 v8190
  v8191.toNat
def k0_dev64 (d0 : Dev nD) : Nat :=
  let c0_i32_9199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_9198 : BitVec 32 := 1#32
  let v8214 : BitVec 32 := Scalar.muli v4 c1_i32_9198
  let v8215 : BitVec 32 := Scalar.addi c0_i32_9199 v8214
  v8215.toNat
def k0_dev65 (d0 : Dev nD) : Nat :=
  let c0_i32_9240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_9239 : BitVec 32 := 1#32
  let v8238 : BitVec 32 := Scalar.muli v4 c1_i32_9239
  let v8239 : BitVec 32 := Scalar.addi c0_i32_9240 v8238
  v8239.toNat
def k0_dev66 (d0 : Dev nD) : Nat :=
  let c0_i32_9728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_9727 : BitVec 32 := 1#32
  let v8710 : BitVec 32 := Scalar.muli v4 c1_i32_9727
  let v8711 : BitVec 32 := Scalar.addi c0_i32_9728 v8710
  v8711.toNat
def k0_dev67 (d0 : Dev nD) : Nat :=
  let c0_i32_9769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_9768 : BitVec 32 := 1#32
  let v8734 : BitVec 32 := Scalar.muli v4 c1_i32_9768
  let v8735 : BitVec 32 := Scalar.addi c0_i32_9769 v8734
  v8735.toNat
def k0_dev68 (d0 : Dev nD) : Nat :=
  let c0_i32_9810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_9809 : BitVec 32 := 1#32
  let v8758 : BitVec 32 := Scalar.muli v4 c1_i32_9809
  let v8759 : BitVec 32 := Scalar.addi c0_i32_9810 v8758
  v8759.toNat
def k0_dev69 (d0 : Dev nD) : Nat :=
  let c0_i32_9851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_9850 : BitVec 32 := 1#32
  let v8782 : BitVec 32 := Scalar.muli v4 c1_i32_9850
  let v8783 : BitVec 32 := Scalar.addi c0_i32_9851 v8782
  v8783.toNat
def k0_dev70 (d0 : Dev nD) : Nat :=
  let c0_i32_10338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_10337 : BitVec 32 := 1#32
  let v9254 : BitVec 32 := Scalar.muli v4 c1_i32_10337
  let v9255 : BitVec 32 := Scalar.addi c0_i32_10338 v9254
  v9255.toNat
def k0_dev71 (d0 : Dev nD) : Nat :=
  let c0_i32_10379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_10378 : BitVec 32 := 1#32
  let v9278 : BitVec 32 := Scalar.muli v4 c1_i32_10378
  let v9279 : BitVec 32 := Scalar.addi c0_i32_10379 v9278
  v9279.toNat
def k0_dev72 (d0 : Dev nD) : Nat :=
  let c0_i32_10420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_10419 : BitVec 32 := 1#32
  let v9302 : BitVec 32 := Scalar.muli v4 c1_i32_10419
  let v9303 : BitVec 32 := Scalar.addi c0_i32_10420 v9302
  v9303.toNat
def k0_dev73 (d0 : Dev nD) : Nat :=
  let c0_i32_10461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_10460 : BitVec 32 := 1#32
  let v9326 : BitVec 32 := Scalar.muli v4 c1_i32_10460
  let v9327 : BitVec 32 := Scalar.addi c0_i32_10461 v9326
  v9327.toNat
def k0_dev74 (d0 : Dev nD) : Nat :=
  let c0_i32_10948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_10947 : BitVec 32 := 1#32
  let v9798 : BitVec 32 := Scalar.muli v4 c1_i32_10947
  let v9799 : BitVec 32 := Scalar.addi c0_i32_10948 v9798
  v9799.toNat
def k0_dev75 (d0 : Dev nD) : Nat :=
  let c0_i32_10989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_10988 : BitVec 32 := 1#32
  let v9822 : BitVec 32 := Scalar.muli v4 c1_i32_10988
  let v9823 : BitVec 32 := Scalar.addi c0_i32_10989 v9822
  v9823.toNat
def k0_dev76 (d0 : Dev nD) : Nat :=
  let c0_i32_11030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_11029 : BitVec 32 := 1#32
  let v9846 : BitVec 32 := Scalar.muli v4 c1_i32_11029
  let v9847 : BitVec 32 := Scalar.addi c0_i32_11030 v9846
  v9847.toNat
def k0_dev77 (d0 : Dev nD) : Nat :=
  let c0_i32_11071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_11070 : BitVec 32 := 1#32
  let v9870 : BitVec 32 := Scalar.muli v4 c1_i32_11070
  let v9871 : BitVec 32 := Scalar.addi c0_i32_11071 v9870
  v9871.toNat
def k0_dev78 (d0 : Dev nD) : Nat :=
  let c0_i32_11558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_11557 : BitVec 32 := 1#32
  let v10342 : BitVec 32 := Scalar.muli v4 c1_i32_11557
  let v10343 : BitVec 32 := Scalar.addi c0_i32_11558 v10342
  v10343.toNat
def k0_dev79 (d0 : Dev nD) : Nat :=
  let c0_i32_11599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_11598 : BitVec 32 := 1#32
  let v10366 : BitVec 32 := Scalar.muli v4 c1_i32_11598
  let v10367 : BitVec 32 := Scalar.addi c0_i32_11599 v10366
  v10367.toNat
def k0_dev80 (d0 : Dev nD) : Nat :=
  let c0_i32_11640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_11639 : BitVec 32 := 1#32
  let v10390 : BitVec 32 := Scalar.muli v4 c1_i32_11639
  let v10391 : BitVec 32 := Scalar.addi c0_i32_11640 v10390
  v10391.toNat
def k0_dev81 (d0 : Dev nD) : Nat :=
  let c0_i32_11681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_11680 : BitVec 32 := 1#32
  let v10414 : BitVec 32 := Scalar.muli v4 c1_i32_11680
  let v10415 : BitVec 32 := Scalar.addi c0_i32_11681 v10414
  v10415.toNat
def k0_dev82 (d0 : Dev nD) : Nat :=
  let c0_i32_12168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_12167 : BitVec 32 := 1#32
  let v10886 : BitVec 32 := Scalar.muli v4 c1_i32_12167
  let v10887 : BitVec 32 := Scalar.addi c0_i32_12168 v10886
  v10887.toNat
def k0_dev83 (d0 : Dev nD) : Nat :=
  let c0_i32_12209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_12208 : BitVec 32 := 1#32
  let v10910 : BitVec 32 := Scalar.muli v4 c1_i32_12208
  let v10911 : BitVec 32 := Scalar.addi c0_i32_12209 v10910
  v10911.toNat
def k0_dev84 (d0 : Dev nD) : Nat :=
  let c0_i32_12250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_12249 : BitVec 32 := 1#32
  let v10934 : BitVec 32 := Scalar.muli v4 c1_i32_12249
  let v10935 : BitVec 32 := Scalar.addi c0_i32_12250 v10934
  v10935.toNat
def k0_dev85 (d0 : Dev nD) : Nat :=
  let c0_i32_12291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_12290 : BitVec 32 := 1#32
  let v10958 : BitVec 32 := Scalar.muli v4 c1_i32_12290
  let v10959 : BitVec 32 := Scalar.addi c0_i32_12291 v10958
  v10959.toNat
def k0_dev86 (d0 : Dev nD) : Nat :=
  let c0_i32_12778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_12777 : BitVec 32 := 1#32
  let v11430 : BitVec 32 := Scalar.muli v4 c1_i32_12777
  let v11431 : BitVec 32 := Scalar.addi c0_i32_12778 v11430
  v11431.toNat
def k0_dev87 (d0 : Dev nD) : Nat :=
  let c0_i32_12819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_12818 : BitVec 32 := 1#32
  let v11454 : BitVec 32 := Scalar.muli v4 c1_i32_12818
  let v11455 : BitVec 32 := Scalar.addi c0_i32_12819 v11454
  v11455.toNat
def k0_dev88 (d0 : Dev nD) : Nat :=
  let c0_i32_12860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_12859 : BitVec 32 := 1#32
  let v11478 : BitVec 32 := Scalar.muli v4 c1_i32_12859
  let v11479 : BitVec 32 := Scalar.addi c0_i32_12860 v11478
  v11479.toNat
def k0_dev89 (d0 : Dev nD) : Nat :=
  let c0_i32_12901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_12900 : BitVec 32 := 1#32
  let v11502 : BitVec 32 := Scalar.muli v4 c1_i32_12900
  let v11503 : BitVec 32 := Scalar.addi c0_i32_12901 v11502
  v11503.toNat
def k0_dev90 (d0 : Dev nD) : Nat :=
  let c0_i32_13388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_13387 : BitVec 32 := 1#32
  let v11974 : BitVec 32 := Scalar.muli v4 c1_i32_13387
  let v11975 : BitVec 32 := Scalar.addi c0_i32_13388 v11974
  v11975.toNat
def k0_dev91 (d0 : Dev nD) : Nat :=
  let c0_i32_13429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_13428 : BitVec 32 := 1#32
  let v11998 : BitVec 32 := Scalar.muli v4 c1_i32_13428
  let v11999 : BitVec 32 := Scalar.addi c0_i32_13429 v11998
  v11999.toNat
def k0_dev92 (d0 : Dev nD) : Nat :=
  let c0_i32_13470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_13469 : BitVec 32 := 1#32
  let v12022 : BitVec 32 := Scalar.muli v4 c1_i32_13469
  let v12023 : BitVec 32 := Scalar.addi c0_i32_13470 v12022
  v12023.toNat
def k0_dev93 (d0 : Dev nD) : Nat :=
  let c0_i32_13511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_13510 : BitVec 32 := 1#32
  let v12046 : BitVec 32 := Scalar.muli v4 c1_i32_13510
  let v12047 : BitVec 32 := Scalar.addi c0_i32_13511 v12046
  v12047.toNat
def k0_dev94 (d0 : Dev nD) : Nat :=
  let c0_i32_13998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_13997 : BitVec 32 := 1#32
  let v12518 : BitVec 32 := Scalar.muli v4 c1_i32_13997
  let v12519 : BitVec 32 := Scalar.addi c0_i32_13998 v12518
  v12519.toNat
def k0_dev95 (d0 : Dev nD) : Nat :=
  let c0_i32_14039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_14038 : BitVec 32 := 1#32
  let v12542 : BitVec 32 := Scalar.muli v4 c1_i32_14038
  let v12543 : BitVec 32 := Scalar.addi c0_i32_14039 v12542
  v12543.toNat
def k0_dev96 (d0 : Dev nD) : Nat :=
  let c0_i32_14080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_14079 : BitVec 32 := 1#32
  let v12566 : BitVec 32 := Scalar.muli v4 c1_i32_14079
  let v12567 : BitVec 32 := Scalar.addi c0_i32_14080 v12566
  v12567.toNat
def k0_dev97 (d0 : Dev nD) : Nat :=
  let c0_i32_14121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_14120 : BitVec 32 := 1#32
  let v12590 : BitVec 32 := Scalar.muli v4 c1_i32_14120
  let v12591 : BitVec 32 := Scalar.addi c0_i32_14121 v12590
  v12591.toNat
def k0_dev98 (d0 : Dev nD) : Nat :=
  let c0_i32_14608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_14607 : BitVec 32 := 1#32
  let v13062 : BitVec 32 := Scalar.muli v4 c1_i32_14607
  let v13063 : BitVec 32 := Scalar.addi c0_i32_14608 v13062
  v13063.toNat
def k0_dev99 (d0 : Dev nD) : Nat :=
  let c0_i32_14649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_14648 : BitVec 32 := 1#32
  let v13086 : BitVec 32 := Scalar.muli v4 c1_i32_14648
  let v13087 : BitVec 32 := Scalar.addi c0_i32_14649 v13086
  v13087.toNat
def k0_dev100 (d0 : Dev nD) : Nat :=
  let c0_i32_14690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_14689 : BitVec 32 := 1#32
  let v13110 : BitVec 32 := Scalar.muli v4 c1_i32_14689
  let v13111 : BitVec 32 := Scalar.addi c0_i32_14690 v13110
  v13111.toNat
def k0_dev101 (d0 : Dev nD) : Nat :=
  let c0_i32_14731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_14730 : BitVec 32 := 1#32
  let v13134 : BitVec 32 := Scalar.muli v4 c1_i32_14730
  let v13135 : BitVec 32 := Scalar.addi c0_i32_14731 v13134
  v13135.toNat
def k0_dev102 (d0 : Dev nD) : Nat :=
  let c0_i32_15218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_15217 : BitVec 32 := 1#32
  let v13606 : BitVec 32 := Scalar.muli v4 c1_i32_15217
  let v13607 : BitVec 32 := Scalar.addi c0_i32_15218 v13606
  v13607.toNat
def k0_dev103 (d0 : Dev nD) : Nat :=
  let c0_i32_15259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_15258 : BitVec 32 := 1#32
  let v13630 : BitVec 32 := Scalar.muli v4 c1_i32_15258
  let v13631 : BitVec 32 := Scalar.addi c0_i32_15259 v13630
  v13631.toNat
def k0_dev104 (d0 : Dev nD) : Nat :=
  let c0_i32_15300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_15299 : BitVec 32 := 1#32
  let v13654 : BitVec 32 := Scalar.muli v4 c1_i32_15299
  let v13655 : BitVec 32 := Scalar.addi c0_i32_15300 v13654
  v13655.toNat
def k0_dev105 (d0 : Dev nD) : Nat :=
  let c0_i32_15341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_15340 : BitVec 32 := 1#32
  let v13678 : BitVec 32 := Scalar.muli v4 c1_i32_15340
  let v13679 : BitVec 32 := Scalar.addi c0_i32_15341 v13678
  v13679.toNat
def k0_dev106 (d0 : Dev nD) : Nat :=
  let c0_i32_15828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_15827 : BitVec 32 := 1#32
  let v14150 : BitVec 32 := Scalar.muli v4 c1_i32_15827
  let v14151 : BitVec 32 := Scalar.addi c0_i32_15828 v14150
  v14151.toNat
def k0_dev107 (d0 : Dev nD) : Nat :=
  let c0_i32_15869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_15868 : BitVec 32 := 1#32
  let v14174 : BitVec 32 := Scalar.muli v4 c1_i32_15868
  let v14175 : BitVec 32 := Scalar.addi c0_i32_15869 v14174
  v14175.toNat
def k0_dev108 (d0 : Dev nD) : Nat :=
  let c0_i32_15910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_15909 : BitVec 32 := 1#32
  let v14198 : BitVec 32 := Scalar.muli v4 c1_i32_15909
  let v14199 : BitVec 32 := Scalar.addi c0_i32_15910 v14198
  v14199.toNat
def k0_dev109 (d0 : Dev nD) : Nat :=
  let c0_i32_15951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_15950 : BitVec 32 := 1#32
  let v14222 : BitVec 32 := Scalar.muli v4 c1_i32_15950
  let v14223 : BitVec 32 := Scalar.addi c0_i32_15951 v14222
  v14223.toNat
def k0_dev110 (d0 : Dev nD) : Nat :=
  let c0_i32_16438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_16437 : BitVec 32 := 1#32
  let v14694 : BitVec 32 := Scalar.muli v4 c1_i32_16437
  let v14695 : BitVec 32 := Scalar.addi c0_i32_16438 v14694
  v14695.toNat
def k0_dev111 (d0 : Dev nD) : Nat :=
  let c0_i32_16479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_16478 : BitVec 32 := 1#32
  let v14718 : BitVec 32 := Scalar.muli v4 c1_i32_16478
  let v14719 : BitVec 32 := Scalar.addi c0_i32_16479 v14718
  v14719.toNat
def k0_dev112 (d0 : Dev nD) : Nat :=
  let c0_i32_16520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_16519 : BitVec 32 := 1#32
  let v14742 : BitVec 32 := Scalar.muli v4 c1_i32_16519
  let v14743 : BitVec 32 := Scalar.addi c0_i32_16520 v14742
  v14743.toNat
def k0_dev113 (d0 : Dev nD) : Nat :=
  let c0_i32_16561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_16560 : BitVec 32 := 1#32
  let v14766 : BitVec 32 := Scalar.muli v4 c1_i32_16560
  let v14767 : BitVec 32 := Scalar.addi c0_i32_16561 v14766
  v14767.toNat
def k0_dev114 (d0 : Dev nD) : Nat :=
  let c0_i32_17048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_17047 : BitVec 32 := 1#32
  let v15238 : BitVec 32 := Scalar.muli v4 c1_i32_17047
  let v15239 : BitVec 32 := Scalar.addi c0_i32_17048 v15238
  v15239.toNat
def k0_dev115 (d0 : Dev nD) : Nat :=
  let c0_i32_17089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_17088 : BitVec 32 := 1#32
  let v15262 : BitVec 32 := Scalar.muli v4 c1_i32_17088
  let v15263 : BitVec 32 := Scalar.addi c0_i32_17089 v15262
  v15263.toNat
def k0_dev116 (d0 : Dev nD) : Nat :=
  let c0_i32_17130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_17129 : BitVec 32 := 1#32
  let v15286 : BitVec 32 := Scalar.muli v4 c1_i32_17129
  let v15287 : BitVec 32 := Scalar.addi c0_i32_17130 v15286
  v15287.toNat
def k0_dev117 (d0 : Dev nD) : Nat :=
  let c0_i32_17171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_17170 : BitVec 32 := 1#32
  let v15310 : BitVec 32 := Scalar.muli v4 c1_i32_17170
  let v15311 : BitVec 32 := Scalar.addi c0_i32_17171 v15310
  v15311.toNat
def k0_dev118 (d0 : Dev nD) : Nat :=
  let c0_i32_17658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_17657 : BitVec 32 := 1#32
  let v15782 : BitVec 32 := Scalar.muli v4 c1_i32_17657
  let v15783 : BitVec 32 := Scalar.addi c0_i32_17658 v15782
  v15783.toNat
def k0_dev119 (d0 : Dev nD) : Nat :=
  let c0_i32_17699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_17698 : BitVec 32 := 1#32
  let v15806 : BitVec 32 := Scalar.muli v4 c1_i32_17698
  let v15807 : BitVec 32 := Scalar.addi c0_i32_17699 v15806
  v15807.toNat
def k0_dev120 (d0 : Dev nD) : Nat :=
  let c0_i32_17740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_17739 : BitVec 32 := 1#32
  let v15830 : BitVec 32 := Scalar.muli v4 c1_i32_17739
  let v15831 : BitVec 32 := Scalar.addi c0_i32_17740 v15830
  v15831.toNat
def k0_dev121 (d0 : Dev nD) : Nat :=
  let c0_i32_17781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_17780 : BitVec 32 := 1#32
  let v15854 : BitVec 32 := Scalar.muli v4 c1_i32_17780
  let v15855 : BitVec 32 := Scalar.addi c0_i32_17781 v15854
  v15855.toNat
def k0_dev122 (d0 : Dev nD) : Nat :=
  let c0_i32_18269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_18268 : BitVec 32 := 1#32
  let v16326 : BitVec 32 := Scalar.muli v4 c1_i32_18268
  let v16327 : BitVec 32 := Scalar.addi c0_i32_18269 v16326
  v16327.toNat
def k0_dev123 (d0 : Dev nD) : Nat :=
  let c0_i32_18310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_18309 : BitVec 32 := 1#32
  let v16350 : BitVec 32 := Scalar.muli v4 c1_i32_18309
  let v16351 : BitVec 32 := Scalar.addi c0_i32_18310 v16350
  v16351.toNat
def k0_dev124 (d0 : Dev nD) : Nat :=
  let c0_i32_18351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_18350 : BitVec 32 := 1#32
  let v16374 : BitVec 32 := Scalar.muli v4 c1_i32_18350
  let v16375 : BitVec 32 := Scalar.addi c0_i32_18351 v16374
  v16375.toNat
def k0_dev125 (d0 : Dev nD) : Nat :=
  let c0_i32_18392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_18391 : BitVec 32 := 1#32
  let v16398 : BitVec 32 := Scalar.muli v4 c1_i32_18391
  let v16399 : BitVec 32 := Scalar.addi c0_i32_18392 v16398
  v16399.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x512 : Shape := ⟨3, ![2, 4096, 512]⟩
abbrev S512x512 : Shape := ⟨2, ![512, 512]⟩
abbrev S2x4096x8x64 : Shape := ⟨4, ![2, 4096, 8, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x4096x8x1 : Shape := ⟨4, ![2, 4096, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S512x512, .bf16⟩
  | .hbm, ⟨2, _⟩ => ⟨S2x4096x8x64, .bf16⟩
  | .hbm, ⟨3, _⟩ => ⟨S2x4096x8x64, .bf16⟩
  | .hbm, ⟨4, _⟩ => ⟨S512x512, .bf16⟩
  | .hbm, ⟨5, _⟩ => ⟨S2x4096x512, .f32⟩
  | .hbm, ⟨6, _⟩ => ⟨S512x512, .f32⟩
  | .hbm, ⟨7, _⟩ => ⟨S2x4096x8x64, .f32⟩
  | .hbm, ⟨8, _⟩ => ⟨S2x4096x8x64, .f32⟩
  | .hbm, ⟨9, _⟩ => ⟨S512x512, .f32⟩
  | .hbm, ⟨10, _⟩ => ⟨S2x4096x512, .f32⟩
  | .hbm, ⟨11, _⟩ => ⟨S2x4096x8x64, .f32⟩
  | .hbm, ⟨12, _⟩ => ⟨S2x8x4096x4096, .f32⟩
  | .hbm, ⟨13, _⟩ => ⟨S_, .f32⟩
  | .hbm, ⟨14, _⟩ => ⟨S2x8x4096x4096, .f32⟩
  | .hbm, ⟨15, _⟩ => ⟨S2x8x4096x4096, .f32⟩
  | .hbm, ⟨16, _⟩ => ⟨S_, .f32⟩
  | .hbm, ⟨17, _⟩ => ⟨S2x8x4096, .f32⟩
  | .hbm, ⟨18, _⟩ => ⟨S2x8x4096x1, .f32⟩
  | .hbm, ⟨19, _⟩ => ⟨S2x8x4096x4096, .f32⟩
  | .hbm, ⟨20, _⟩ => ⟨S2x8x4096x4096, .f32⟩
  | .hbm, ⟨21, _⟩ => ⟨S2x8x4096x4096, .f32⟩
  | .hbm, ⟨22, _⟩ => ⟨S_, .f32⟩
  | .hbm, ⟨23, _⟩ => ⟨S2x8x4096, .f32⟩
  | .hbm, ⟨24, _⟩ => ⟨S2x8x4096x1, .f32⟩
  | .hbm, ⟨25, _⟩ => ⟨S2x8x64x4096, .f32⟩
  | .hbm, ⟨26, _⟩ => ⟨S2x4096x8x64, .f32⟩
  | .hbm, ⟨27, _⟩ => ⟨S2x4096x8x1, .f32⟩
  | .hbm, ⟨28, _⟩ => ⟨S2x4096x8x64, .f32⟩
  | .hbm, ⟨29, _⟩ => ⟨S2x4096x8x64, .f32⟩
  | .hbm, ⟨30, _⟩ => ⟨S2x4096x512, .f32⟩
  | .hbm, ⟨31, _⟩ => ⟨S2x4096x512, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Prog.lean ====
/-
# The kernel's body as a chain of few repeated steps

The printed body is one straight line of statements: an entry handshake, a prologue, then for each of the 32 ring
positions `h` the waits for the copies of position `h - 1`, the copies of position `h` and sixteen attention steps,
and an epilogue. Here each repeated step is written once, with its position, quarter, batch row and head as
parameters; `Segments` proves that the printed body is their chain.
-/
module

public import proofs.«01_k».proof.Proof.Gen.KernelIdeal

@[expose] public section

noncomputable section

namespace Cert.KernelIdeal.Ring

open Idealize.ShloMosaic Idealize.SL.Sem
open Cert.KernelIdeal.Gen

/-! ## The offsets the steps use lie inside their arrays -/

theorem in_slot (h : Fin 32) (q : Fin 4) :
    ∀ a, (![h.val, q.val, 0, 0] : Fin 4 → Nat) a + S1x1x128x512.size a ≤ S32x4x128x512.size a := by
  intro a; fin_cases a
  · show h.val + 1 ≤ 32; omega
  · show q.val + 1 ≤ 4; omega
  · show 0 + 128 ≤ 128; omega
  · show 0 + 512 ≤ 512; omega

theorem in_head (h : Fin 32) (q : Fin 4) (d : Fin 8) :
    ∀ a, (![h.val, q.val, 0, 64 * d.val] : Fin 4 → Nat) a + S1x1x128x64.size a ≤ S32x4x128x512.size a := by
  intro a; fin_cases a
  · show h.val + 1 ≤ 32; omega
  · show q.val + 1 ≤ 4; omega
  · show 0 + 128 ≤ 128; omega
  · show 64 * d.val + 64 ≤ 512; omega

theorem in_query (b : Fin 2) (d : Fin 8) :
    ∀ a, (![b.val, 0, 64 * d.val] : Fin 3 → Nat) a + S1x128x64.size a ≤ S2x128x512.size a := by
  intro a; fin_cases a
  · show b.val + 1 ≤ 2; omega
  · show 0 + 128 ≤ 128; omega
  · show 64 * d.val + 64 ≤ 512; omega

theorem in_row (b : Fin 2) :
    ∀ a, (![b.val, 0, 0] : Fin 3 → Nat) a + S1x128x512.size a ≤ S2x128x512.size a := by
  intro a; fin_cases a
  · show b.val + 1 ≤ 2; omega
  · show 0 + 128 ≤ 128; omega
  · show 0 + 512 ≤ 512; omega

theorem in_sum (t : Fin 16) :
    ∀ a, (![t.val, 0, 0] : Fin 3 → Nat) a + S1x128x1.size a ≤ S16x128x1.size a := by
  intro a; fin_cases a
  · show t.val + 1 ≤ 16; omega
  · show 0 + 128 ≤ 128; omega
  · show 0 + 1 ≤ 1; omega

theorem in_acc (t : Fin 16) :
    ∀ a, (![t.val, 0, 0] : Fin 3 → Nat) a + S1x128x64.size a ≤ S16x128x64.size a := by
  intro a; fin_cases a
  · show t.val + 1 ≤ 16; omega
  · show 0 + 128 ≤ 128; omega
  · show 0 + 64 ≤ 64; omega

theorem in_pair (p : Fin 2) :
    ∀ a, (![0, 2 * p.val, 0, 0] : Fin 4 → Nat) a + S1x2x128x512.size a ≤ S32x4x128x512.size a := by
  intro a; fin_cases a
  · show 0 + 1 ≤ 32; omega
  · show 2 * p.val + 2 ≤ 4; omega
  · show 0 + 128 ≤ 128; omega
  · show 0 + 512 ≤ 512; omega

theorem in_out (d : Fin 8) :
    ∀ a, (![64 * d.val, 0] : Fin 2 → Nat) a + S64x512.size a ≤ S512x512.size a := by
  intro a; fin_cases a
  · show 64 * d.val + 64 ≤ 512; omega
  · show 0 + 512 ≤ 512; omega

theorem in_sem (q : Fin 4) (h : Fin 31) :
    ∀ a, (![q.val, h.val] : Fin 2 → Nat) a + S1x1.size a ≤ S4x31.size a := by
  intro a; fin_cases a
  · show q.val + 1 ≤ 4; omega
  · show h.val + 1 ≤ 31; omega

/-- A quarter of a slot is whole words. -/
theorem slot_words (h : Fin 32) (q : Fin 4) :
    (Rect.unit (s := S32x4x128x512) ![h.val, q.val, 0, 0] S1x1x128x512.size (in_slot h q)).WholeWords (EltTy.packing .bf16) := by
  revert h q; decide +kernel

theorem row_packed (b : Fin 2) :
    (Rect.unit (s := S2x128x512) ![b.val, 0, 0] S1x128x512.size (in_row b)).PackedRows (EltTy.packing .bf16) := by
  revert b; decide +kernel

theorem pair_packed (p : Fin 2) :
    (Rect.unit (s := S32x4x128x512) ![0, 2 * p.val, 0, 0] S1x2x128x512.size (in_pair p)).PackedRows (EltTy.packing .bf16) := by
  revert p; decide +kernel

/-! ## The rectangles -/

abbrev rSlot (h : Fin 32) (q : Fin 4) : Rect S32x4x128x512 := Rect.unit (s := S32x4x128x512) ![h.val, q.val, 0, 0] S1x1x128x512.size (in_slot h q)
abbrev rHead (h : Fin 32) (q : Fin 4) (d : Fin 8) : Rect S32x4x128x512 := Rect.unit (s := S32x4x128x512) ![h.val, q.val, 0, 64 * d.val] S1x1x128x64.size (in_head h q d)
abbrev rQuery (b : Fin 2) (d : Fin 8) : Rect S2x128x512 := Rect.unit (s := S2x128x512) ![b.val, 0, 64 * d.val] S1x128x64.size (in_query b d)
abbrev rRow (b : Fin 2) : Rect S2x128x512 := Rect.unit (s := S2x128x512) ![b.val, 0, 0] S1x128x512.size (in_row b)
abbrev rSum (t : Fin 16) : Rect S16x128x1 := Rect.unit (s := S16x128x1) ![t.val, 0, 0] S1x128x1.size (in_sum t)
abbrev rAcc (t : Fin 16) : Rect S16x128x64 := Rect.unit (s := S16x128x64) ![t.val, 0, 0] S1x128x64.size (in_acc t)
abbrev rPair (p : Fin 2) : Rect S32x4x128x512 := Rect.unit (s := S32x4x128x512) ![0, 2 * p.val, 0, 0] S1x2x128x512.size (in_pair p)
abbrev rOut (d : Fin 8) : Rect S512x512 := Rect.unit (s := S512x512) ![64 * d.val, 0] S64x512.size (in_out d)
abbrev rWq : Rect S512x512 := Rect.unit (s := S512x512) ![0, 0] S512x512.size inb_S512x512_S512x512_0_0
abbrev rSums : Rect S16x128x1 := Rect.unit (s := S16x128x1) ![0, 0, 0] S16x128x1.size inb_S16x128x1_S16x128x1_0_0_0
abbrev rAccs : Rect S16x128x64 := Rect.unit (s := S16x128x64) ![0, 0, 0] S16x128x64.size inb_S16x128x64_S16x128x64_0_0_0
abbrev rHeads : Rect S2x128x8x64 := Rect.unit (s := S2x128x8x64) ![0, 0, 0, 0] S2x128x8x64.size inb_S2x128x8x64_S2x128x8x64_0_0_0_0

variable {F : FTy → Type} [FloatOps F]

/-! ## The values the steps store -/

/-- A batch row of the queries. -/
def queryVal (x : Vec F S1x128x512 .bf16) (w : Vec F S512x512 .bf16) : FVec F S1x128x512 .bf16 :=
  shapeCast S1x128x512 (truncf .bf16 (matmul dot_S128x512_S512x512_S128x512_1_0_0_1_n_n none
    (shapeCast S128x512 x shapeCasts_S1x128x512_S128x512) (shapeCast S512x512 w shapeCasts_S512x512_S512x512)
    (constant S128x512 .f32 0x00000000#32)) bitsLt_bf16_f32) shapeCasts_S128x512_S1x128x512

def zeroSums : FVec F S16x128x1 .f32 :=
  shapeCast S16x128x1 (broadcast S16x128x1 (Scalar.ofBits .f32 0x00000000#32 : F .f32)) shapeCasts_S16x128x1_S16x128x1
def zeroAccs : FVec F S16x128x64 .f32 :=
  shapeCast S16x128x64 (broadcast S16x128x64 (Scalar.ofBits .f32 0x00000000#32 : F .f32)) shapeCasts_S16x128x64_S16x128x64

/-- The device's keys (or values), its heads side by side in a row. -/
def chunkVal (k : Vec F S2x128x8x64 .bf16) : FVec F S1x2x128x512 .bf16 :=
  shapeCast S1x2x128x512 (shapeCast S2x128x512 (shapeCast S2x128x8x64 k shapeCasts_S2x128x8x64_S2x128x8x64)
    shapeCasts_S2x128x8x64_S2x128x512) shapeCasts_S2x128x512_S1x2x128x512

/-- The weights `exp (q k * 0.125 - 16)` of one head on one chunk. -/
def weights (q : Vec F S1x128x64 .bf16) (k : Vec F S1x1x128x64 .bf16) : FVec F S128x128 .f32 :=
  exp (subf (mulf (matmul dot_S128x64_S128x64_S128x128_1_1_0_0_n_n none
    (shapeCast S128x64 q shapeCasts_S1x128x64_S128x64) (shapeCast S128x64 k shapeCasts_S1x1x128x64_S128x64)
    (constant S128x128 .f32 0x00000000#32)) (broadcast S128x128 (Scalar.ofBits .f32 0x3E000000#32 : F .f32)))
    (broadcast S128x128 (Scalar.ofBits .f32 0x41800000#32 : F .f32)))

/-- The row sums after one more chunk. -/
def sumVal (p : FVec F S128x128 .f32) (l : Vec F S1x128x1 .f32) : FVec F S1x128x1 .f32 :=
  shapeCast S1x128x1 (addf (shapeCast S128x1 l shapeCasts_S1x128x1_S128x1)
    (shapeCast S128x1 (multiReduction .add [1] S128 p 0x00000000#32 reduces_S128x128_S128 (.inl rfl) rfl) shapeCasts_S128_S128x1))
    shapeCasts_S128x1_S1x128x1

/-- The weighted values after one more chunk. -/
def accVal (p : FVec F S128x128 .f32) (v : Vec F S1x1x128x64 .bf16) (a : Vec F S1x128x64 .f32) : FVec F S1x128x64 .f32 :=
  shapeCast S1x128x64 (addf (shapeCast S128x64 a shapeCasts_S1x128x64_S128x64)
    (matmul dot_S128x128_S128x64_S128x64_1_0_0_1_n_n none (truncf .bf16 p bitsLt_bf16_f32)
      (shapeCast S128x64 v shapeCasts_S1x1x128x64_S128x64) (constant S128x64 .f32 0x00000000#32)))
    shapeCasts_S128x64_S1x128x64

/-- One head's share of the output projection added to `o`. -/
def projVal (a : Vec F S1x128x64 .f32) (l : Vec F S1x128x1 .f32) (w : Vec F S64x512 .bf16) (o : FVec F S128x512 .f32) : FVec F S128x512 .f32 :=
  addf o (matmul dot_S128x64_S64x512_S128x512_1_0_0_1_n_n none
    (truncf .bf16 (divf (shapeCast S128x64 a shapeCasts_S1x128x64_S128x64)
      (broadcastTo S128x64 (shapeCast S128x1 l shapeCasts_S1x128x1_S128x1) broadcasts_S128x1_S128x64)) bitsLt_bf16_f32)
    (shapeCast S64x512 w shapeCasts_S64x512_S64x512) (constant S128x512 .f32 0x00000000#32))

def zeroOut : FVec F S128x512 .f32 := broadcast S128x512 (Scalar.ofBits .f32 0x00000000#32 : F .f32)

/-! ## The steps -/

section Steps

variable (arg0 : Memref sig .tc .vmem S2x128x512 .bf16) (harg0 : arg0.IsWhole) (arg1 : Memref sig .tc .vmem S512x512 .bf16) (harg1 : arg1.IsWhole)
  (arg2 : Memref sig .tc .vmem S512x512 .bf16) (harg2 : arg2.IsWhole) (arg3 : Memref sig .tc .vmem S2x128x8x64 .bf16) (harg3 : arg3.IsWhole)
  (arg4 : Memref sig .tc .vmem S2x128x8x64 .bf16) (harg4 : arg4.IsWhole) (arg5 : Memref sig .tc .vmem S2x128x512 .f32) (harg5 : arg5.IsWhole)
  (arg6 : Memref sig .tc .vmem S32x4x128x512 .bf16) (harg6 : arg6.IsWhole) (arg7 : Memref sig .tc .vmem S2x128x512 .bf16) (harg7 : arg7.IsWhole)
  (arg8 : Memref sig .tc .vmem S16x128x64 .f32) (harg8 : arg8.IsWhole) (arg9 : Memref sig .tc .vmem S16x128x1 .f32) (harg9 : arg9.IsWhole)
  (arg10 arg11 : DmaSems sig S4x31)

/-- The program type of the body's steps. -/
abbrev Step (F : FTy → Type) (α : Type) := Prog (TpuEff nD τ sig (Elt F) Λ₀ .tc) α

/-- The barrier semaphore of the entry handshake. -/
abbrev barSem : Sem sig := (SemArray.scalar (sig.barrier 0 rfl) : Sems sig S_).sem

/-- Tell the left neighbour this device has entered; wait for the right one. -/
def handshake (d0 : Dev nD) : Step F PUnit := do
  semSignalWord (⟨k0_dev1 d0, K0.Facts₀.k0_dev1_lt d0⟩ : Dev nD) barSem 1#32
  semWaitWord barSem 1#32

/-- The queries of batch row `b`. -/
def queries (b : Fin 2) : Step F PUnit := do
  let x ← Prog.lift (.load arg0 (rRow b).toLoadRect (View.loadsAt_vmem h_S1x128x512))
  let w ← Prog.lift (.load arg1 rWq.toLoadRect (View.loadsAt_vmem h_S512x512))
  let _ ← Prog.lift (.load arg7 (rRow b).toLoadRect (View.loadsAt_vmem h_S1x128x512))
  Prog.lift (.store arg7 (rRow b) (queryVal x w) Finset.univ
    (View.stores_vmem h_S1x128x512 (harg7.storeExact_slice rfl _ (row_packed b)) (fun _ => rfl)) (.inl rfl))

/-- Sums and accumulators at zero. -/
def zeros : Step F PUnit := do
  let _ ← Prog.lift (.load arg9 rSums.toLoadRect (View.loadsAt_vmem h_S16x128x1))
  Prog.lift (.store arg9 rSums zeroSums Finset.univ (View.stores_vmem_bits_univ h_S16x128x1 rfl) (.inl rfl))
  let _ ← Prog.lift (.load arg8 rAccs.toLoadRect (View.loadsAt_vmem h_S16x128x64))
  Prog.lift (.store arg8 rAccs zeroAccs Finset.univ (View.stores_vmem_bits_univ h_S16x128x64 rfl) (.inl rfl))

/-- The device's own keys (`p = 0`, from `src = arg3`) or values (`p = 1`, from `arg4`) into slot 0. -/
def ownChunk (src : Memref sig .tc .vmem S2x128x8x64 .bf16) (p : Fin 2) : Step F PUnit := do
  let k ← Prog.lift (.load src rHeads.toLoadRect (View.loadsAt_vmem h_S2x128x8x64))
  let _ ← Prog.lift (.load arg6 (rPair p).toLoadRect (View.loadsAt_vmem h_S1x2x128x512))
  Prog.lift (.store arg6 (rPair p) (chunkVal k) Finset.univ
    (View.stores_vmem h_S1x2x128x512 (harg6.storeExact_slice rfl _ (pair_packed p)) (fun _ => rfl)) (.inl rfl))

/-- Quarter `q` of slot `h`. -/
def slotRef (h : Fin 32) (q : Fin 4) : Memref sig .tc .vmem S128x512 .bf16 :=
  (arg6.slice (rSlot h q) (fun _ => rfl)).squeeze S128x512 squeezes_S1x1x128x512_S128x512

/-- The semaphore of quarter `q`'s copy out of slot `h`. -/
def semOf (arr : DmaSems sig S4x31) (q : Fin 4) (h : Fin 31) : DmaSem sig :=
  ((arr.slice (Rect.unit (s := S4x31) ![q.val, h.val] S1x1.size (in_sem q h))).squeeze S_ squeezes_S1x1_S_).sem

include harg6 in
theorem slotRef_words (h : Fin 32) (q : Fin 4) : (slotRef arg6 h q).view.WordExact :=
  (harg6.wordExact_slice rfl _ (slot_words h q)).reshape _ _

/-- Wait for quarter `q`'s copy out of slot `h` and for the one into slot `h + 1`. -/
def waits (h : Fin 31) (q : Fin 4) : Step F PUnit := do
  Prog.lift (.waitDma2 (semOf arg10 q h) (slotRef arg6 h.succ q) (slotRef arg6 h.castSucc q)
    (slotRef_words arg6 harg6 h.succ q) (slotRef_words arg6 harg6 h.castSucc q))
  Prog.lift (.waitDma2 (semOf arg11 q h) (slotRef arg6 h.castSucc q) (slotRef arg6 h.succ q)
    (slotRef_words arg6 harg6 h.castSucc q) (slotRef_words arg6 harg6 h.succ q))

/-- Copy quarter `q` of slot `h` into the right neighbour's slot `h + 1`. -/
def send (d0 : Dev nD) (h : Fin 31) (q : Fin 4) : Step F PUnit :=
  Prog.lift (.enqueueDma (slotRef arg6 h.castSucc q)
    (.remote (Dev.tc (⟨k0_dev2 d0, K0.Facts₀.k0_dev2_lt d0⟩ : Dev nD)) (slotRef arg6 h.succ q) (.dma (semOf arg10 q h))) (.dma (semOf arg11 q h))
    (slotRef_words arg6 harg6 h.castSucc q) (slotRef_words arg6 harg6 h.succ q) ⟨⟨rfl, Or.inl rfl⟩, trivial⟩)

/-- Batch row `b` and head `d` of the sixteen sums and accumulators. -/
def headIdx (b : Fin 2) (d : Fin 8) : Fin 16 := ⟨8 * b.val + d.val, by omega⟩

/-- One head of one batch row on the chunk in slot `h`. -/
def attend (h : Fin 32) (b : Fin 2) (d : Fin 8) : Step F PUnit := do
  let q ← Prog.lift (.load arg7 (rQuery b d).toLoadRect (View.loadsAt_vmem h_S1x128x64))
  let k ← Prog.lift (.load arg6 (rHead h (b.castLE (by decide)) d).toLoadRect (View.loadsAt_vmem h_S1x1x128x64))
  let v ← Prog.lift (.load arg6 (rHead h (b.natAdd 2) d).toLoadRect (View.loadsAt_vmem h_S1x1x128x64))
  let l ← Prog.lift (.load arg9 (rSum (headIdx b d)).toLoadRect (View.loadsAt_vmem h_S1x128x1))
  let _ ← Prog.lift (.load arg9 (rSum (headIdx b d)).toLoadRect (View.loadsAt_vmem h_S1x128x1))
  Prog.lift (.store arg9 (rSum (headIdx b d)) (sumVal (weights q k) l) Finset.univ (View.stores_vmem_bits_univ h_S1x128x1 rfl) (.inl rfl))
  let a ← Prog.lift (.load arg8 (rAcc (headIdx b d)).toLoadRect (View.loadsAt_vmem h_S1x128x64))
  let _ ← Prog.lift (.load arg8 (rAcc (headIdx b d)).toLoadRect (View.loadsAt_vmem h_S1x128x64))
  Prog.lift (.store arg8 (rAcc (headIdx b d)) (accVal (weights q k) v a) Finset.univ (View.stores_vmem_bits_univ h_S1x128x64 rfl) (.inl rfl))

/-- Step `n` of the ring: 24 steps per slot `h = n / 24`; the first eight alternate the waits of position `h - 1` (none at
    `h = 0`) and the copy of position `h` (none at the last), quarter by quarter; the other sixteen are the heads. -/
def item (d0 : Dev nD) (n : Nat) : Step F PUnit :=
  bif Nat.blt (n % 24) 8 then
    (bif Nat.beq (n % 2) 0 then
      (bif Nat.blt n 24 then pure ⟨⟩ else waits arg6 harg6 arg10 arg11 (Fin.ofNat 31 (n / 24 - 1)) (Fin.ofNat 4 (n % 24 / 2)))
    else
      (bif Nat.blt n 744 then send arg6 harg6 arg10 arg11 d0 (Fin.ofNat 31 (n / 24)) (Fin.ofNat 4 (n % 24 / 2)) else pure ⟨⟩))
  else attend arg6 arg7 arg8 arg9 (Fin.ofNat 32 (n / 24)) (Fin.ofNat 2 ((n % 24 - 8) / 8)) (Fin.ofNat 8 (n % 8))

/-- Steps `i`, `i + 1`, …, `n` of them. -/
def run (f : Nat → Step F PUnit) : Nat → Nat → Step F PUnit
  | _, 0 => pure ⟨⟩
  | i, n + 1 => f i >>= fun _ => run f (i + 1) n

/-- One head's share of the projection. -/
def project (b : Fin 2) (d : Fin 8) (o : FVec F S128x512 .f32) : Step F (FVec F S128x512 .f32) := do
  let a ← Prog.lift (.load arg8 (rAcc (headIdx b d)).toLoadRect (View.loadsAt_vmem h_S1x128x64))
  let l ← Prog.lift (.load arg9 (rSum (headIdx b d)).toLoadRect (View.loadsAt_vmem h_S1x128x1))
  let w ← Prog.lift (.load arg2 (rOut d).toLoadRect (View.loadsAt_vmem h_S64x512))
  pure (projVal a l w o)

/-- The first `n` heads' projection of batch row `b`, from head `i` on. -/
def projects (b : Fin 2) : Nat → Nat → FVec F S128x512 .f32 → Step F (FVec F S128x512 .f32)
  | _, 0, o => pure o
  | i, n + 1, o => project arg2 arg8 arg9 b (Fin.ofNat 8 i) o >>= fun o => projects b (i + 1) n o

/-- Batch row `b` of the result. -/
def result (b : Fin 2) : Step F PUnit := do
  let o ← projects arg2 arg8 arg9 b 0 8 zeroOut
  let _ ← Prog.lift (.load arg5 (rRow b).toLoadRect (View.loadsAt_vmem h_S1x128x512))
  Prog.lift (.store arg5 (rRow b) (shapeCast S1x128x512 o shapeCasts_S128x512_S1x128x512) Finset.univ
    (View.stores_vmem_bits_univ h_S1x128x512 rfl) (.inl rfl))

/-- Everything before the ring. -/
def prologue (d0 : Dev nD) : Step F PUnit := do
  handshake d0
  queries arg0 arg1 arg7 harg7 0
  queries arg0 arg1 arg7 harg7 1
  zeros arg8 arg9
  ownChunk arg6 harg6 arg3 0
  ownChunk arg6 harg6 arg4 1

/-- Everything after it. -/
def epilogue : Step F PUnit := do
  result arg2 arg5 arg8 arg9 0
  result arg2 arg5 arg8 arg9 1
  pure ⟨⟩

end Steps

end Cert.KernelIdeal.Ring

end
-- ==== Proof.Protocol.lean ====
/-
# The ring protocol: who copies what to whom, and on which semaphore

Device `c` sends quarter `q` of its slot `h` into quarter `q` of slot `h + 1` of the device to its right (`nxt c`), for
`h = 0 … 30` and `q = 0 … 3`: copy number `4 h + q`. Slot `h` of device `c` so comes to hold the keys and values of the
device `h` places to the left. The schedule has one round:

* the barrier cell of `c` is paid one unit by `nxt c` when it enters, which hands over the quarters the copies land in;
* the send cell of copy `j` is paid by the copy when its source has been read, which hands back the source's share;
* the receive cell of copy `j` is paid by the left neighbour's copy when it has landed, which hands over the quarter,
  holding what it is to hold.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and the ring's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of devices -/

set_option backward.proofsInPublic true in
/-- The device to the right. -/
def nxt (c : Dev nD) : Dev nD := ⟨(c.val + 1) % 32, Nat.mod_lt _ (by decide)⟩
set_option backward.proofsInPublic true in
/-- The device to the left. -/
def prv (c : Dev nD) : Dev nD := ⟨(c.val + 31) % 32, Nat.mod_lt _ (by decide)⟩
set_option backward.proofsInPublic true in
/-- The device `h` places to the left: whose keys and values slot `h` is to hold. -/
def origin (c : Dev nD) (h : ℕ) : Dev nD := ⟨(c.val + (32 - h % 32)) % 32, Nat.mod_lt _ (by decide)⟩

theorem prv_nxt (c : Dev nD) : prv (nxt c) = c := by revert c; decide
theorem nxt_prv (c : Dev nD) : nxt (prv c) = c := by revert c; decide
theorem origin_zero (c : Dev nD) : origin c 0 = c := by revert c; decide
theorem origin_nxt (c : Dev nD) (h : Fin 31) : origin (nxt c) (h.val + 1) = origin c h.val := by
  apply Fin.ext; show ((c.val + 1) % 32 + (32 - (h.val + 1) % 32)) % 32 = (c.val + (32 - h.val % 32)) % 32
  have := h.isLt; omega

theorem dev1_eq (c : Dev nD) : (⟨k0_dev1 c, K0.Facts₀.k0_dev1_lt c⟩ : Dev nD) = prv c := Fin.ext (k0_dev1_eq c)
theorem dev2_eq (c : Dev nD) : (⟨k0_dev2 c, K0.Facts₀.k0_dev2_lt c⟩ : Dev nD) = nxt c := Fin.ext (k0_dev2_eq c)

def ring : Dev nD ≃ Dev nD := ⟨nxt, prv, prv_nxt, nxt_prv⟩

/-! ## Copies, quarters, semaphores -/

/-- Slot and quarter of copy `j`. -/
def cslot (j : Fin 124) : Fin 31 := ⟨j.val / 4, by omega⟩
def cquart (j : Fin 124) : Fin 4 := ⟨j.val % 4, by omega⟩
/-- Slot and quarter of quarter number `j`. -/
def qslot (j : Fin 128) : Fin 32 := ⟨j.val / 4, by omega⟩
def qquart (j : Fin 128) : Fin 4 := ⟨j.val % 4, by omega⟩
/-- The quarter copy `j` reads, and the one it writes (on the right neighbour). -/
def srcOf (j : Fin 124) : Fin 128 := ⟨j.val, by omega⟩
def dstOf (j : Fin 124) : Fin 128 := ⟨j.val + 4, by omega⟩

theorem qslot_src (j : Fin 124) : qslot (srcOf j) = (cslot j).castSucc := rfl
theorem qslot_dst (j : Fin 124) : qslot (dstOf j) = (cslot j).succ := Fin.ext (by show (j.val + 4) / 4 = j.val / 4 + 1; omega)
theorem qquart_src (j : Fin 124) : qquart (srcOf j) = cquart j := rfl
theorem qquart_dst (j : Fin 124) : qquart (dstOf j) = cquart j := Fin.ext (by show (j.val + 4) % 4 = j.val % 4; omega)

abbrev sendS (j : Fin 124) : DmaSem sig := semOf cc0_scratch4 (cquart j) (cslot j)
abbrev recvS (j : Fin 124) : DmaSem sig := semOf cc0_scratch5 (cquart j) (cslot j)

theorem semOf_send (q : Fin 4) (h : Fin 31) : (semOf cc0_scratch4 q h).val = 6 + 31 * q.val + h.val := by
  revert q h; decide +kernel
theorem semOf_recv (q : Fin 4) (h : Fin 31) : (semOf cc0_scratch5 q h).val = 130 + 31 * q.val + h.val := by
  revert q h; decide +kernel

theorem sendS_val (j : Fin 124) : (sendS j).val = 6 + 31 * (j.val % 4) + j.val / 4 := semOf_send _ _
theorem recvS_val (j : Fin 124) : (recvS j).val = 130 + 31 * (j.val % 4) + j.val / 4 := semOf_recv _ _

theorem sendS_inj {i j : Fin 124} (h : sendS i = sendS j) : i = j := by
  have := congrArg Fin.val h; rw [sendS_val, sendS_val] at this; exact Fin.ext (by omega)
theorem recvS_inj {i j : Fin 124} (h : recvS i = recvS j) : i = j := by
  have := congrArg Fin.val h; rw [recvS_val, recvS_val] at this; exact Fin.ext (by omega)
theorem sendS_ne_recvS (i j : Fin 124) : sendS i ≠ recvS j := fun h => by
  have := congrArg Fin.val h; rw [sendS_val, recvS_val] at this; omega

abbrev barCell (c : Dev nD) : GSem nD τ sig := ((c : Thread nD τ), .reg barSem)
abbrev sendCell (c : Dev nD) (j : Fin 124) : GSem nD τ sig := ((c : Thread nD τ), .dma (sendS j))
abbrev recvCell (c : Dev nD) (j : Fin 124) : GSem nD τ sig := ((c : Thread nD τ), .dma (recvS j))

/-! ## The slots' memory -/

abbrev kvM : Memref sig .tc .vmem S32x4x128x512 .bf16 := Memref.whole cc0_scratch0
abbrev kvLoc (c : Dev nD) : Loc nD τ sig := (c : Thread nD τ).loc cc0_scratch0
abbrev slotM (j : Fin 128) : Memref sig .tc .vmem S128x512 .bf16 := slotRef kvM (qslot j) (qquart j)

/-- The elements of quarter `j`. -/
abbrev qset (j : Fin 128) : Finset S32x4x128x512.Idx := (rSlot (qslot j) (qquart j)).set

theorem slot_set (h : Fin 32) (q : Fin 4) : (slotRef kvM h q).view.set = (rSlot h q).set := by
  show (((View.whole cc0_scratch0).slice (rSlot h q)).reshape S128x512 _).set = _
  rw [View.set_reshape, View.set_slice_whole]

theorem mem_qset {j : Fin 128} {i : S32x4x128x512.Idx} : i ∈ qset j ↔ (i 0).val = j.val / 4 ∧ (i 1).val = j.val % 4 := by
  rw [qset, Rect.mem_set_unit]
  constructor
  · intro h
    have h0 := h 0; have h1 := h 1
    have e0 : j.val / 4 ≤ (i 0).val ∧ (i 0).val < j.val / 4 + 1 := h0
    have e1 : j.val % 4 ≤ (i 1).val ∧ (i 1).val < j.val % 4 + 1 := h1
    omega
  · rintro ⟨h0, h1⟩ a
    have h2 := (i 2).isLt; have h3 := (i 3).isLt
    fin_cases a
    · show j.val / 4 ≤ (i 0).val ∧ (i 0).val < j.val / 4 + 1; omega
    · show j.val % 4 ≤ (i 1).val ∧ (i 1).val < j.val % 4 + 1; omega
    · show 0 ≤ (i 2).val ∧ (i 2).val < 0 + 128; exact ⟨Nat.zero_le _, by rw [Nat.zero_add]; exact h2⟩
    · show 0 ≤ (i 3).val ∧ (i 3).val < 0 + 512; exact ⟨Nat.zero_le _, by rw [Nat.zero_add]; exact h3⟩

theorem qset_disjoint {i j : Fin 128} (h : i ≠ j) : Disjoint (qset i) (qset j) :=
  Finset.disjoint_left.mpr fun x hi hj => h (Fin.ext (by have a := mem_qset.mp hi; have b := mem_qset.mp hj; omega))

/-- The number of the quarter an element lies in. -/
def quarterOf (i : S32x4x128x512.Idx) : Fin 128 :=
  ⟨4 * (i 0).val + (i 1).val, by
    have h0 : (i 0).val < 32 := (i 0).isLt
    have h1 : (i 1).val < 4 := (i 1).isLt
    omega⟩
theorem mem_quarterOf (i : S32x4x128x512.Idx) : i ∈ qset (quarterOf i) := by
  have h1 : (i 1).val < 4 := (i 1).isLt
  exact mem_qset.mpr ⟨by show (i 0).val = (4 * (i 0).val + (i 1).val) / 4; omega, by show (i 1).val = (4 * (i 0).val + (i 1).val) % 4; omega⟩

theorem qset_cover : (Finset.univ : Finset (Fin 128)).biUnion qset = Finset.univ :=
  Finset.eq_univ_iff_forall.mpr fun i => Finset.mem_biUnion.mpr ⟨quarterOf i, Finset.mem_univ _, mem_quarterOf i⟩

/-! ## The contents -/

/-- What the devices' argument arrays hold. -/
structure Inputs (F : FTy → Type) where
  x : Dev nD → Vec F S2x128x512 .bf16
  wq : Dev nD → Vec F S512x512 .bf16
  wo : Dev nD → Vec F S512x512 .bf16
  k : Dev nD → Vec F S2x128x8x64 .bf16
  v : Dev nD → Vec F S2x128x8x64 .bf16

/-- An element's place among the two quarters of keys (or of values). -/
def half (i : S32x4x128x512.Idx) : S1x2x128x512.Idx := fun a =>
  ⟨(![0, (i 1).val % 2, (i 2).val, (i 3).val] : Fin 4 → ℕ) a, by
    have h2 := (i 2).isLt; have h3 := (i 3).isLt
    fin_cases a
    · exact Nat.one_pos
    · exact Nat.mod_lt _ (by decide)
    · exact h2
    · exact h3⟩

variable (I : Inputs F)

/-- What the slots of device `c` hold when everything has arrived: slot `h` the keys (quarters 0, 1) and values
    (quarters 2, 3) of the device `h` places to the left. -/
def kvAll (c : Dev nD) : Vec F S32x4x128x512 .bf16 := fun i =>
  if (i 1).val < 2 then chunkVal (I.k (origin c (i 0).val)) (half i) else chunkVal (I.v (origin c (i 0).val)) (half i)

/-- The same place of the next slot on the right neighbour holds the same. -/
theorem kvAll_shift (c : Dev nD) (h : Fin 31) (q : Fin 4) (y : S1x1x128x512.Idx) :
    kvAll I (nxt c) ((rSlot h.succ q).emb y) = kvAll I c ((rSlot h.castSucc q).emb y) := by
  have y0 : (y 0).val = 0 := Nat.lt_one_iff.mp (y 0).isLt
  have e0 : (((rSlot h.succ q).emb y) 0).val = h.val + 1 := by
    show (h.val + 1) + 1 * (y 0).val = _; rw [y0]
  have e0' : (((rSlot h.castSucc q).emb y) 0).val = h.val := by
    show h.val + 1 * (y 0).val = _; rw [y0, Nat.mul_zero, Nat.add_zero]
  have eh : half ((rSlot h.succ q).emb y) = half ((rSlot h.castSucc q).emb y) := rfl
  have e1 : (((rSlot h.succ q).emb y) 1).val = (((rSlot h.castSucc q).emb y) 1).val := rfl
  unfold kvAll
  rw [e0, e0', origin_nxt, eh, e1]

/-- What copy `j` writes is what the quarter it writes is to hold. -/
theorem landed (c : Dev nD) (j : Fin 124) (fd : Vec F S32x4x128x512 .bf16) (i : S32x4x128x512.Idx) (hi : i ∈ (slotRef kvM (cslot j).succ (cquart j)).view.set) :
    (slotRef kvM (cslot j).succ (cquart j)).view.write (Elt F) fd
      ((slotRef kvM (cslot j).castSucc (cquart j)).view.read (Elt F) (kvAll I c)) Finset.univ i = kvAll I (nxt c) i := by
  obtain ⟨x, -, rfl⟩ := Finset.mem_map.mp hi
  refine (View.write_emb_of_mem (Val := Elt F) (v := (slotRef kvM (cslot j).succ (cquart j)).view) fd _ (Finset.mem_univ x)).trans ?_
  exact (kvAll_shift I c (cslot j) (cquart j) _).symm

/-! ## Ownership of a quarter -/

/-- Quarter `j` of device `c`, the share `π` of it, holding `f`. -/
def qPts (c : Dev nD) (j : Fin 128) (π : PosShare TreeShare) (f : Vec F S32x4x128x512 .bf16) : sProp 𝕄 := kvLoc c ↦[qset j]{π} f

omit [FloatOps F] in
instance qPts_storable (c : Dev nD) (j : Fin 128) (π f) : BI.Storable (upEmb : UEmb _ 𝕄) (qPts (F := F) c j π f) := by unfold qPts; infer_instance

omit [FloatOps F] in
theorem qPts_src (c : Dev nD) (j : Fin 124) (π) (f : Vec F S32x4x128x512 .bf16) :
    (qPts c (srcOf j) π f : sProp 𝕄) = ((slotRef kvM (cslot j).castSucc (cquart j)).view.loc (c : Thread nD τ)
      ↦[(slotRef kvM (cslot j).castSucc (cquart j)).view.set]{π} f) := by
  rw [slot_set]; rfl
omit [FloatOps F] in
theorem qPts_dst (c : Dev nD) (j : Fin 124) (π) (f : Vec F S32x4x128x512 .bf16) :
    (qPts c (dstOf j) π f : sProp 𝕄) = ((slotRef kvM (cslot j).succ (cquart j)).view.loc (c : Thread nD τ)
      ↦[(slotRef kvM (cslot j).succ (cquart j)).view.set]{π} f) := by
  rw [slot_set, ← qslot_dst, ← qquart_dst]; rfl

abbrev lent : PosShare TreeShare := fullShare.right
abbrev kept : PosShare TreeShare := fullShare.left

omit [FloatOps F] in
theorem qPts_halves (c : Dev nD) (j : Fin 128) (f : Vec F S32x4x128x512 .bf16) :
    (qPts c j fullShare f : sProp 𝕄) ⊣⊢ iprop(qPts c j kept f ∗ qPts c j lent f) := pointsTo_share (PosShare.mem_left_op_right _)

/-- A copy's credit: the words of one quarter. -/
abbrev N : ℕ := (slotRef kvM 0 0).view.dmaCredit
theorem N_pos : 0 < N := View.dmaCredit_pos _ (by show 0 < S128x512.numel; decide)

/-! ## The schedule -/

/-- What a semaphore is for. -/
inductive Role where
  | bar
  | send (j : Fin 124)
  | recv (j : Fin 124)
  | other
  deriving DecidableEq

def role : SemLoc sig → Role
  | .reg s => if s = barSem then .bar else .other
  | .dma s =>
    if h : 6 ≤ s.val ∧ s.val < 130 then .send ⟨4 * ((s.val - 6) % 31) + (s.val - 6) / 31, by omega⟩
    else if h : 130 ≤ s.val ∧ s.val < 254 then .recv ⟨4 * ((s.val - 130) % 31) + (s.val - 130) / 31, by omega⟩
    else .other

theorem role_bar : role (.reg barSem) = .bar := by unfold role; exact if_pos rfl
theorem role_send (j : Fin 124) : role (.dma (sendS j)) = .send j := by
  have hv := sendS_val j; have hj := j.isLt
  unfold role
  dsimp only
  rw [dif_pos (show 6 ≤ (sendS j).val ∧ (sendS j).val < 130 by omega)]
  exact congrArg Role.send (Fin.ext (by show 4 * (((sendS j).val - 6) % 31) + ((sendS j).val - 6) / 31 = j.val; omega))
theorem role_recv (j : Fin 124) : role (.dma (recvS j)) = .recv j := by
  have hv := recvS_val j; have hj := j.isLt
  unfold role
  dsimp only
  rw [dif_neg (show ¬(6 ≤ (recvS j).val ∧ (recvS j).val < 130) by omega), dif_pos (show 130 ≤ (recvS j).val ∧ (recvS j).val < 254 by omega)]
  exact congrArg Role.recv (Fin.ext (by show 4 * (((recvS j).val - 130) % 31) + ((recvS j).val - 130) / 31 = j.val; omega))
theorem role_staging (s : DmaSem sig) (h : s.val < 6) : role (.dma s) = .other := by
  unfold role
  dsimp only
  rw [dif_neg (by omega), dif_neg (by omega)]

/-- What `nxt c`'s entry signal hands `c`: the quarters the copies of `c` land in. -/
def barPay (c : Dev nD) : sProp 𝕄 := bigSep Finset.univ fun j : Fin 124 => iprop(∃ f, qPts (F := F) (nxt c) (dstOf j) fullShare f)
def sendPay (c : Dev nD) (j : Fin 124) : sProp 𝕄 := qPts c (srcOf j) lent (kvAll I c)
def recvPay (c : Dev nD) (j : Fin 124) : sProp 𝕄 := qPts c (dstOf j) fullShare (kvAll I c)

/-- The payload of a role on device `c`. -/
def pay (c : Dev nD) : Role → sProp 𝕄
  | .bar => barPay c
  | .send j => sendPay I c j
  | .recv j => recvPay I c j
  | .other => iprop(emp)

/-- The units of a role's one duty. -/
def units : Role → ℕ
  | .bar => 1
  | _ => N

instance pay_storable (c : Dev nD) (r : Role) : BI.Storable (upEmb : UEmb _ 𝕄) (pay I c r) := by
  cases r <;> unfold pay <;> dsimp only
  · unfold barPay; infer_instance
  · unfold sendPay; infer_instance
  · unfold recvPay; infer_instance
  · infer_instance

def Rd : Rounds.Schedule (GSem nD τ sig) Unit 𝕄 where
  duties g r := if r = 0 ∧ g.1.2 = .tc ∧ role g.2 ≠ .other then {()} else ∅
  unitless _ := False
  amount g _ _ := units (role g.2)
  payload g _ _ := pay I g.1.1 (role g.2)
  amount_pos g _ _ _ := by
    cases role g.2
    · exact Nat.one_pos
    all_goals exact N_pos

instance Rd_payload_storable (g : GSem nD τ sig) (r : ℕ) (d : Unit) : BI.Storable (upEmb : UEmb _ 𝕄) ((Rd I).payload g r d) := pay_storable I _ _

section Tables
variable (c : Dev nD) (j : Fin 124)

theorem duties_of (sm : SemLoc sig) (h : role sm ≠ .other) : (Rd I).duties ((c : Thread nD τ), sm) 0 = {()} := if_pos ⟨rfl, rfl, h⟩
theorem duties_later (g : GSem nD τ sig) : ∀ r, 1 ≤ r → (Rd I).duties g r = ∅ := fun r hr => if_neg fun h => by omega
theorem bar_used : role (.reg barSem) ≠ .other := by rw [role_bar]; exact Role.noConfusion
theorem send_used : role (.dma (sendS j)) ≠ .other := by rw [role_send]; exact Role.noConfusion
theorem recv_used : role (.dma (recvS j)) ≠ .other := by rw [role_recv]; exact Role.noConfusion

theorem amount_bar : (Rd I).amount (barCell c) 0 () = 1 := by show units (role (.reg barSem)) = 1; rw [role_bar]; rfl
theorem amount_send : (Rd I).amount (sendCell c j) 0 () = N := by show units (role (.dma (sendS j))) = N; rw [role_send]; rfl
theorem amount_recv : (Rd I).amount (recvCell c j) 0 () = N := by show units (role (.dma (recvS j))) = N; rw [role_recv]; rfl

theorem expect_of (sm : SemLoc sig) (h : role sm ≠ .other) : (Rd I).expect ((c : Thread nD τ), sm) 0 = (Rd I).amount ((c : Thread nD τ), sm) 0 () := by
  unfold Schedule.expect Schedule.amountOf; rw [duties_of I c sm h, Finset.sum_singleton]

theorem payload_bar : (Rd I).payload (barCell c) 0 () = barPay c := by show pay I c (role (.reg barSem)) = _; rw [role_bar]; rfl
theorem payload_send : (Rd I).payload (sendCell c j) 0 () = sendPay I c j := by show pay I c (role (.dma (sendS j))) = _; rw [role_send]; rfl
theorem payload_recv : (Rd I).payload (recvCell c j) 0 () = recvPay I c j := by show pay I c (role (.dma (recvS j))) = _; rw [role_recv]; rfl

theorem rest_of (sm : SemLoc sig) (h : role sm ≠ .other) :
    bigSep ((Rd I).duties ((c : Thread nD τ), sm) 0 \ ∅) (fun d => (Rd I).payload ((c : Thread nD τ), sm) 0 d) = (Rd I).payload ((c : Thread nD τ), sm) 0 () := by
  rw [Finset.sdiff_empty, duties_of I c sm h, bigSep_singleton]

end Tables

/-! ## What a device owes; the levels -/

/-- The copies not yet sent when `s` have been. -/
def unsent (s : ℕ) : Finset (Fin 124) := Finset.univ.filter fun j => s ≤ j.val
/-- After `s` copies: the credits of the right neighbour's remaining receive cells. -/
def owedAt (c : Dev nD) (s : ℕ) : CellTallies nD τ sig Unit := ∑ j ∈ unsent s, tallyAt (recvCell (nxt c) j) () N

theorem unsent_eq (s : Fin 124) : unsent s.val = insert s (unsent (s.val + 1)) := by
  ext j; simp only [unsent, Finset.mem_filter, Finset.mem_univ, true_and, Finset.mem_insert, Fin.ext_iff]; omega
theorem owedAt_step (c : Dev nD) (s : Fin 124) : owedAt c s.val = owedAt c (s.val + 1) + tallyAt (recvCell (nxt c) s) () N := by
  unfold owedAt
  rw [unsent_eq, Finset.sum_insert (by simp [unsent]), add_comm]
theorem owedAt_end (c : Dev nD) (s : ℕ) (h : 124 ≤ s) : owedAt c s = 0 := by
  unfold owedAt
  rw [show unsent s = ∅ from Finset.filter_eq_empty_iff.mpr fun j _ => by omega]; rfl

/-- At launch: all copies' credits and the entry signal to the left neighbour. -/
def owedStart (c : Dev nD) : CellTallies nD τ sig Unit := owedAt c 0 + tallyAt (barCell (prv c)) () 1

def L (g : GSem nD τ sig) : Finset Unit := if g.1.2 = .tc then {()} else ∅
/-- The level of a role: send and staging cells lowest, then the barrier, then the receive cells in the order of the copies. -/
def level : Role → ℕ
  | .bar => 1
  | .recv j => 2 + j.val
  | _ => 0
def lv (g : GSem nD τ sig) (_ : Unit) : ℕ := level (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {k : ℕ} (h : 0 < tallyAt g' () k g u) : g = g' := by
  rw [tallyAt_apply] at h
  by_contra hn
  rw [if_neg fun h' => hn h'.1] at h
  exact Nat.lt_irrefl 0 h

theorem owedAt_pos {c : Dev nD} {s : ℕ} {g : GSem nD τ sig} {u : Unit} (h : 0 < owedAt c s g u) :
    ∃ j : Fin 124, s ≤ j.val ∧ g = recvCell (nxt c) j := by
  unfold owedAt at h
  rw [Finset.sum_apply, Finsupp.finset_sum_apply] at h
  obtain ⟨j, hj, hp⟩ := Finset.exists_ne_zero_of_sum_ne_zero (Nat.pos_iff_ne_zero.mp h)
  exact ⟨j, (Finset.mem_filter.mp hj).2, tally_pos (Nat.pos_of_ne_zero hp)⟩

theorem owedStart_pos {c : Dev nD} {g : GSem nD τ sig} {u : Unit} (h : 0 < owedStart c g u) :
    g = barCell (prv c) ∨ ∃ j : Fin 124, g = recvCell (nxt c) j := by
  unfold owedStart at h
  rw [Pi.add_apply, Finsupp.add_apply] at h
  rcases Nat.eq_zero_or_pos (owedAt c 0 g u) with h0 | h0
  · rw [h0, Nat.zero_add] at h; exact .inl (tally_pos h)
  · obtain ⟨j, _, hj⟩ := owedAt_pos h0; exact .inr ⟨j, hj⟩

omit [FloatOps F] in
/-- Waiting on a cell whose level is below the copies still owed. -/
theorem mayWait_owed (c : Dev nD) (sm : SemLoc sig) (s : ℕ) (h : level (role sm) < 2 + s) :
    (levAts L lv : sProp 𝕄) ⊢ MayWait (c : Thread nD τ) sm () (owedAt c s) :=
  MayOwe.of_cut (L := L) (lev := lv) (level (role sm)) (fun p hp => by rw [Finset.mem_singleton.mp hp, L_tc]; exact Finset.mem_singleton_self _)
    (fun g u hg => by obtain ⟨j, _, rfl⟩ := owedAt_pos hg; rw [L_tc]; exact Finset.mem_singleton_self _)
    (fun p hp => by rw [Finset.mem_singleton.mp hp]; exact le_refl _)
    (fun g u hg => by
      obtain ⟨j, hj, rfl⟩ := owedAt_pos hg
      show level (role sm) < level (role (.dma (recvS j)))
      rw [role_recv]; show level (role sm) < 2 + j.val; omega)

omit [FloatOps F] in
/-- Waiting on a staging cell before the body. -/
theorem mayWait_start (c : Dev nD) (sm : SemLoc sig) (h : level (role sm) = 0) :
    (levAts L lv : sProp 𝕄) ⊢ MayWait (c : Thread nD τ) sm () (owedStart c) :=
  MayOwe.of_cut (L := L) (lev := lv) 0 (fun p hp => by rw [Finset.mem_singleton.mp hp, L_tc]; exact Finset.mem_singleton_self _)
    (fun g u hg => by rcases owedStart_pos hg with rfl | ⟨j, rfl⟩ <;> (rw [L_tc]; exact Finset.mem_singleton_self _))
    (fun p hp => by rw [Finset.mem_singleton.mp hp]; exact le_of_eq h)
    (fun g u hg => by
      rcases owedStart_pos hg with rfl | ⟨j, rfl⟩
      · show 0 < level (role (.reg barSem)); rw [role_bar]; exact Nat.one_pos
      · show 0 < level (role (.dma (recvS j))); rw [role_recv]; show 0 < 2 + j.val; omega)

end Cert.KernelIdeal.Ring

end
-- ==== Proof.State.lean ====
/-
# What the scratch buffers hold, step by step

The query buffer after the two projections, and the sixteen row sums and accumulators after `a` of the 512 attention
steps (32 slots, two batch rows, eight heads).
-/
module

public import proofs.«01_k».proof.Proof.Protocol

@[expose] public section

noncomputable section

namespace Cert.KernelIdeal.Ring

open Cert.KernelIdeal.Gen
open Idealize.ShloMosaic
open Idealize.ShloMosaic.TcCoe
open Idealize.SL.Sem

variable {F : FTy → Type} [FloatOps F]

abbrev qM : Memref sig .tc .vmem S2x128x512 .bf16 := Memref.whole cc0_scratch1
abbrev accM : Memref sig .tc .vmem S16x128x64 .f32 := Memref.whole cc0_scratch2
abbrev sumM : Memref sig .tc .vmem S16x128x1 .f32 := Memref.whole cc0_scratch3
abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x128x8x64 .bf16 := Memref.whole cc0_stg3_0
abbrev vM : Memref sig .tc .vmem S2x128x8x64 .bf16 := Memref.whole cc0_stg4_0
abbrev oM : Memref sig .tc .vmem S2x128x512 .f32 := Memref.whole cc0_stg5_0

/-! ## An array written row by row -/

/-- An element's place in its batch row. -/
def inRow (i : S2x128x512.Idx) : S1x128x512.Idx := fun a =>
  ⟨(![0, (i 1).val, (i 2).val] : Fin 3 → ℕ) a, by
    have h1 := (i 1).isLt; have h2 := (i 2).isLt
    fin_cases a
    · exact Nat.one_pos
    · exact h1
    · exact h2⟩

/-- The array of the two rows `w 0` and `w 1`. -/
def rows {α : Type} (w : Fin 2 → S1x128x512.Idx → α) : S2x128x512.Idx → α := fun i => w (i 0) (inRow i)

theorem row_emb (i : S2x128x512.Idx) (b : Fin 2) (h : i 0 = b) : (rRow b).emb (inRow i) = i := by
  subst h
  funext a; fin_cases a <;> apply Fin.ext
  · show (i 0).val + 1 * 0 = (i 0).val; omega
  · show 0 + 1 * (i 1).val = (i 1).val; omega
  · show 0 + 1 * (i 2).val = (i 2).val; omega

theorem row_not_mem (i : S2x128x512.Idx) (b : Fin 2) (h : i 0 ≠ b) : i ∉ (rRow b).set := fun hi => by
  have := (Rect.mem_set_unit.mp hi) 0
  have hb : b.val ≤ (i 0).val ∧ (i 0).val < b.val + 1 := this
  exact h (Fin.ext (by omega))

theorem row_cases (i : S2x128x512.Idx) : i 0 = (0 : Fin 2) ∨ i 0 = (1 : Fin 2) := by
  have : (i 0).val < 2 := (i 0).isLt
  rcases Nat.lt_or_ge (i 0).val 1 with h | h
  · exact .inl (Fin.ext (show (i 0).val = 0 by omega))
  · exact .inr (Fin.ext (show (i 0).val = 1 by omega))

/-- Writing both rows of the query buffer. -/
theorem rows_query (f : Vec F S2x128x512 .bf16) (w : Fin 2 → FVec F S1x128x512 .bf16) :
    (qM.access (rRow 1)).write (Elt F) ((qM.access (rRow 0)).write (Elt F) f (w 0) Finset.univ) (w 1) Finset.univ = rows w := by
  refine funext fun (i : S2x128x512.Idx) => ?_
  rcases row_cases i with h | h
  · refine (View.write_of_not_mem (Val := Elt F) (v := qM.access (rRow 1)) _ _ _ ?_).trans ?_
    · rw [View.setOn_univ]; show i ∉ ((View.whole cc0_scratch1).slice (rRow 1)).set
      rw [View.set_slice_whole]; exact row_not_mem i 1 (by rw [h]; exact (by decide : (0 : Fin 2) ≠ 1))
    · have e := View.write_emb_of_mem (Val := Elt F) (v := qM.access (rRow 0)) f (w 0) (Finset.mem_univ (inRow i))
      have hx : (qM.access (rRow 0)).emb (inRow i) = i := row_emb i 0 h
      rw [hx] at e
      refine e.trans ?_
      show w 0 (inRow i) = w (i 0) (inRow i); rw [h]
  · have e := View.write_emb_of_mem (Val := Elt F) (v := qM.access (rRow 1)) ((qM.access (rRow 0)).write (Elt F) f (w 0) Finset.univ) (w 1) (Finset.mem_univ (inRow i))
    have hx : (qM.access (rRow 1)).emb (inRow i) = i := row_emb i 1 h
    rw [hx] at e
    refine e.trans ?_
    show w 1 (inRow i) = w (i 0) (inRow i); rw [h]

/-- Writing both rows of the result. -/
theorem rows_out (f : Vec F S2x128x512 .f32) (w : Fin 2 → FVec F S1x128x512 .f32) :
    (oM.access (rRow 1)).write (Elt F) ((oM.access (rRow 0)).write (Elt F) f (w 0) Finset.univ) (w 1) Finset.univ = rows w := by
  refine funext fun (i : S2x128x512.Idx) => ?_
  rcases row_cases i with h | h
  · refine (View.write_of_not_mem (Val := Elt F) (v := oM.access (rRow 1)) _ _ _ ?_).trans ?_
    · rw [View.setOn_univ]; show i ∉ ((View.whole cc0_stg5_0).slice (rRow 1)).set
      rw [View.set_slice_whole]; exact row_not_mem i 1 (by rw [h]; exact (by decide : (0 : Fin 2) ≠ 1))
    · have e := View.write_emb_of_mem (Val := Elt F) (v := oM.access (rRow 0)) f (w 0) (Finset.mem_univ (inRow i))
      have hx : (oM.access (rRow 0)).emb (inRow i) = i := row_emb i 0 h
      rw [hx] at e
      refine e.trans ?_
      show w 0 (inRow i) = w (i 0) (inRow i); rw [h]
  · have e := View.write_emb_of_mem (Val := Elt F) (v := oM.access (rRow 1)) ((oM.access (rRow 0)).write (Elt F) f (w 0) Finset.univ) (w 1) (Finset.mem_univ (inRow i))
    have hx : (oM.access (rRow 1)).emb (inRow i) = i := row_emb i 1 h
    rw [hx] at e
    refine e.trans ?_
    show w 1 (inRow i) = w (i 0) (inRow i); rw [h]

/-! ## The query buffer, the sums, the accumulators, the result -/

variable (I : Inputs F) (c : Dev nD)

/-- Batch row `b` of the queries. -/
def queryRow (b : Fin 2) : FVec F S1x128x512 .bf16 :=
  queryVal (xM.view.readAt (Elt F) (rRow b).toLoadRect (I.x c)) (wqM.view.readAt (Elt F) rWq.toLoadRect (I.wq c))
def qAll : Vec F S2x128x512 .bf16 := rows (queryRow I c)

/-- One head's weights on the chunk in slot `h`. -/
def stepWeights (h : Fin 32) (b : Fin 2) (d : Fin 8) : FVec F S128x128 .f32 :=
  weights (qM.view.readAt (Elt F) (rQuery b d).toLoadRect (qAll I c))
    (kvM.view.readAt (Elt F) (rHead h (b.castLE (by decide)) d).toLoadRect (kvAll I c))

/-- The sums after the step of slot `h`, batch row `b`, head `d`. -/
def sumStep (h : Fin 32) (b : Fin 2) (d : Fin 8) (l : Vec F S16x128x1 .f32) : Vec F S16x128x1 .f32 :=
  (sumM.access (rSum (headIdx b d))).write (Elt F) l
    (sumVal (stepWeights I c h b d) (sumM.view.readAt (Elt F) (rSum (headIdx b d)).toLoadRect l)) Finset.univ
/-- The accumulators after it. -/
def accStep (h : Fin 32) (b : Fin 2) (d : Fin 8) (a : Vec F S16x128x64 .f32) : Vec F S16x128x64 .f32 :=
  (accM.access (rAcc (headIdx b d))).write (Elt F) a
    (accVal (stepWeights I c h b d) (kvM.view.readAt (Elt F) (rHead h (b.natAdd 2) d).toLoadRect (kvAll I c))
      (accM.view.readAt (Elt F) (rAcc (headIdx b d)).toLoadRect a)) Finset.univ

/-- Slot, batch row and head of attention step `a`. -/
abbrev slotNo (a : ℕ) : Fin 32 := Fin.ofNat 32 (a / 16)
abbrev rowNo (a : ℕ) : Fin 2 := Fin.ofNat 2 (a % 16 / 8)
abbrev headNo (a : ℕ) : Fin 8 := Fin.ofNat 8 (a % 8)

def sums : ℕ → Vec F S16x128x1 .f32
  | 0 => zeroSums
  | a + 1 => sumStep I c (slotNo a) (rowNo a) (headNo a) (sums a)
def accs : ℕ → Vec F S16x128x64 .f32
  | 0 => zeroAccs
  | a + 1 => accStep I c (slotNo a) (rowNo a) (headNo a) (accs a)

/-- One head's projection from the finished sums and accumulators. -/
def projStep (b : Fin 2) (d : Fin 8) (o : FVec F S128x512 .f32) : FVec F S128x512 .f32 :=
  projVal (accM.view.readAt (Elt F) (rAcc (headIdx b d)).toLoadRect (accs I c 512))
    (sumM.view.readAt (Elt F) (rSum (headIdx b d)).toLoadRect (sums I c 512))
    (woM.view.readAt (Elt F) (rOut d).toLoadRect (I.wo c)) o
def projAll (b : Fin 2) : ℕ → ℕ → FVec F S128x512 .f32 → FVec F S128x512 .f32
  | _, 0, o => o
  | i, n + 1, o => projAll b (i + 1) n (projStep I c b (Fin.ofNat 8 i) o)
/-- The kernel's result on device `c`. -/
def outAt : Vec F S2x128x512 .f32 := rows fun b => shapeCast S1x128x512 (projAll I c b 0 8 zeroOut) shapeCasts_S128x512_S1x128x512

/-! ## Slot 0 -/

/-- The quarters of slot 0. -/
def slot0 : Finset S32x4x128x512.Idx := Finset.univ.filter fun i => (i 0).val = 0

theorem mem_pair (i : S32x4x128x512.Idx) (p : Fin 2) : i ∈ (rPair p).set ↔ (i 0).val = 0 ∧ (i 1).val / 2 = p.val := by
  have i1 : (i 1).val < 4 := (i 1).isLt
  rw [Rect.mem_set_unit]
  constructor
  · intro h
    have e0 : 0 ≤ (i 0).val ∧ (i 0).val < 0 + 1 := h 0
    have e1 : 2 * p.val ≤ (i 1).val ∧ (i 1).val < 2 * p.val + 2 := h 1
    omega
  · rintro ⟨h0, h1⟩ a
    have h2 := (i 2).isLt; have h3 := (i 3).isLt
    fin_cases a
    · show 0 ≤ (i 0).val ∧ (i 0).val < 0 + 1; omega
    · show 2 * p.val ≤ (i 1).val ∧ (i 1).val < 2 * p.val + 2; omega
    · show 0 ≤ (i 2).val ∧ (i 2).val < 0 + 128; exact ⟨Nat.zero_le _, by rw [Nat.zero_add]; exact h2⟩
    · show 0 ≤ (i 3).val ∧ (i 3).val < 0 + 512; exact ⟨Nat.zero_le _, by rw [Nat.zero_add]; exact h3⟩

theorem pair_emb (i : S32x4x128x512.Idx) (p : Fin 2) (h0 : (i 0).val = 0) (h : (i 1).val / 2 = p.val) : (rPair p).emb (half i) = i := by
  funext a; fin_cases a <;> apply Fin.ext
  · show 0 + 1 * 0 = (i 0).val; omega
  · show 2 * p.val + 1 * ((i 1).val % 2) = (i 1).val; omega
  · show 0 + 1 * (i 2).val = (i 2).val; omega
  · show 0 + 1 * (i 3).val = (i 3).val; omega

/-- Storing the device's own keys and values makes slot 0 what it is to be. -/
theorem slot0_filled (f : Vec F S32x4x128x512 .bf16) (i : S32x4x128x512.Idx) (hi : i ∈ slot0) :
    (kvM.access (rPair 1)).write (Elt F) ((kvM.access (rPair 0)).write (Elt F) f (chunkVal (I.k c)) Finset.univ) (chunkVal (I.v c)) Finset.univ i
      = kvAll I c i := by
  have h0 : (i 0).val = 0 := (Finset.mem_filter.mp hi).2
  have i1 : (i 1).val < 4 := (i 1).isLt
  unfold kvAll
  rw [h0, origin_zero]
  rcases Nat.lt_or_ge (i 1).val 2 with h | h
  · rw [if_pos h]
    refine (View.write_of_not_mem (Val := Elt F) (v := kvM.access (rPair 1)) _ _ _ ?_).trans ?_
    · rw [View.setOn_univ]; show i ∉ ((View.whole cc0_scratch0).slice (rPair 1)).set
      rw [View.set_slice_whole, mem_pair]; rintro ⟨_, h'⟩; have : (i 1).val / 2 = 1 := h'; omega
    · have e := View.write_emb_of_mem (Val := Elt F) (v := kvM.access (rPair 0)) f (chunkVal (I.k c)) (Finset.mem_univ (half i))
      have hx : (kvM.access (rPair 0)).emb (half i) = i := pair_emb i 0 h0 (by show (i 1).val / 2 = 0; omega)
      rw [hx] at e
      exact e
  · rw [if_neg (by omega)]
    have e := View.write_emb_of_mem (Val := Elt F) (v := kvM.access (rPair 1)) ((kvM.access (rPair 0)).write (Elt F) f (chunkVal (I.k c)) Finset.univ) (chunkVal (I.v c)) (Finset.mem_univ (half i))
    have hx : (kvM.access (rPair 1)).emb (half i) = i := pair_emb i 1 h0 (by show (i 1).val / 2 = 1; omega)
    rw [hx] at e
    exact e

end Cert.KernelIdeal.Ring

end
-- ==== Proof.Steps.lean ====
/-
# The steps of the body

The state between two steps of the ring is told by three counts: `w` copies waited for, `s` copies sent, `a` attention
steps done. One rule per kind of step moves one of them on by one.
-/
module

public import proofs.«01_k».proof.Proof.State

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a step on device `c`. -/
abbrev stepWp {α : Type} (c : Dev nD) (p : Step F α) (Q : α → sProp 𝕄) : sProp 𝕄 :=
  wp frame (wpE (defs₀ (F := F)) 𝒱₀ (c : Thread nD τ) none) Set.univ p Q

theorem step_then {α β : Type} (c : Dev nD) (p : Step F α) (k : α → Step F β) {P : sProp 𝕄} {R : α → sProp 𝕄} {Q : β → sProp 𝕄}
    (h : P ⊢ stepWp c p R) (hk : ∀ a, R a ⊢ stepWp c (k a) Q) : P ⊢ stepWp c (p >>= k) Q := by
  rw [stepWp, wp_bind]
  exact h.trans (wp_mono _ _ _ hk)

/-! ## The cells' invariants, shared by all devices -/

/-- A device's ring cells: the barrier's, and each copy's send (`true`) and receive (`false`) cell. -/
abbrev CellIx : Type := Option (Bool × Fin 124)
def cellAt (p : Dev nD × CellIx) : GSem nD τ sig :=
  match p.2 with
  | none => barCell p.1
  | some (true, j) => sendCell p.1 j
  | some (false, j) => recvCell p.1 j

variable (I : Inputs F)

/-- Every ring cell's invariant, and that its round 0 is reached. -/
def recs (K : Dev nD × CellIx → ℕ) : sProp 𝕄 :=
  iprop(bigSep Finset.univ (fun p : Dev nD × CellIx => cellInv ER (Rd I) (K p) (cellAt p))
    ∗ bigSep Finset.univ (fun p : Dev nD × CellIx => reached ER (cellAt p) 0))

instance recs_persistent (K : Dev nD × CellIx → ℕ) : BI.Persistent (recs I K) := by unfold recs; infer_instance

theorem recs_inv (K : Dev nD × CellIx → ℕ) (p : Dev nD × CellIx) : recs I K ⊢ cellInv ER (Rd I) (K p) (cellAt p) := by
  unfold recs; iintro ⟨#H, -⟩
  iapply (show bigSep Finset.univ (fun p : Dev nD × CellIx => cellInv ER (Rd I) (K p) (cellAt p)) ⊢ cellInv ER (Rd I) (K p) (cellAt p) from
    bigSep_elim (Finset.mem_univ p)); iexact H
theorem recs_reached (K : Dev nD × CellIx → ℕ) (p : Dev nD × CellIx) : recs I K ⊢ reached ER (cellAt p) 0 := by
  unfold recs; iintro ⟨-, #H⟩
  iapply (show bigSep Finset.univ (fun p : Dev nD × CellIx => (reached ER (cellAt p) 0 : sProp 𝕄)) ⊢ reached ER (cellAt p) 0 from
    bigSep_elim (Finset.mem_univ p)); iexact H

/-! ## The state of the copies and of the quarters -/

section States
variable (c : Dev nD) (w s : ℕ)

/-- Copy `j` waited for: both cells closed. -/
def doneSt (j : Fin 124) : sProp 𝕄 := iprop(semVal (sendCell c j) 0 ∗ semVal (recvCell c j) 0)
/-- Copy `j` sent and not yet waited for. -/
def flyingSt (j : Fin 124) : sProp 𝕄 :=
  iprop(atPos ER (sendCell c j) 0 ∅ 0 ∗ atPos ER (recvCell c j) 0 ∅ 0 ∗ cred (tallyAt (recvCell c j) () N) ∗ cred (tallyAt (sendCell c j) () N))
/-- Copy `j` not yet sent. -/
def idleSt (j : Fin 124) : sProp 𝕄 :=
  iprop(atPos ER (sendCell c j) 0 ∅ 0 ∗ atPos ER (recvCell c j) 0 ∅ 0 ∗ cred (tallyAt (recvCell c j) () N)
    ∗ dutyTok ER (sendCell c j) 0 () ∗ dutyTok ER (recvCell (nxt c) j) 0 () ∗ ∃ f, qPts (F := F) (nxt c) (dstOf j) fullShare f)

def copySt (j : Fin 124) : sProp 𝕄 := if j.val < w then doneSt c j else if j.val < s then flyingSt c j else idleSt c j

/-- A quarter of the slots: here once it has arrived, but for the share a copy in flight has. -/
def quarterSt (j : Fin 128) : sProp 𝕄 :=
  if j.val < w + 4 then iprop(qPts c j kept (kvAll I c) ∗ (if w ≤ j.val ∧ j.val < s then iprop(emp) else qPts c j lent (kvAll I c))) else iprop(emp)

def bufPts (b : Ref sig .tc) (f : b.ty.Contents (Elt F)) : sProp 𝕄 := ((c : Thread nD τ).loc b) ↦{fullShare} f

/-- The state of the ring. -/
def Inv (K : Dev nD × CellIx → ℕ) (a : ℕ) : sProp 𝕄 :=
  iprop(recs I K ∗ levAts L lv ∗ (∃ W, owes (c : Thread nD τ) (owedAt c s) W)
    ∗ bigSep Finset.univ (copySt (F := F) c w s) ∗ bigSep Finset.univ (quarterSt I c w s)
    ∗ bufPts c cc0_scratch1 (qAll I c) ∗ bufPts c cc0_scratch3 (sums I c a) ∗ bufPts c cc0_scratch2 (accs I c a))

end States

/-! ## Sending a copy -/

theorem credit (h : Fin 32) (q : Fin 4) : (slotRef kvM h q).view.dmaCredit = N := rfl

theorem landing (c : Dev nD) (j : Fin 124) (fn : Vec F S32x4x128x512 .bf16) :
    ((slotRef kvM (cslot j).succ (cquart j)).view.loc (nxt c : Thread nD τ) ↦[(slotRef kvM (cslot j).succ (cquart j)).view.set]{fullShare}
      ((slotRef kvM (cslot j).succ (cquart j)).view.write (Elt F) fn ((slotRef kvM (cslot j).castSucc (cquart j)).view.read (Elt F) (kvAll I c)) Finset.univ) : sProp 𝕄)
      ⊢ (Rd I).payload (recvCell (nxt c) j) 0 () := by
  rw [payload_recv]; unfold recvPay; rw [qPts_dst]
  exact Entails.of_eq (pointsTo_congr fun i hi => landed I c j fn i hi)

theorem lending (c : Dev nD) (j : Fin 124) :
    ((slotRef kvM (cslot j).castSucc (cquart j)).view.loc (c : Thread nD τ) ↦[(slotRef kvM (cslot j).castSucc (cquart j)).view.set]{lent} kvAll I c : sProp 𝕄)
      ⊢ (Rd I).payload (sendCell c j) 0 () := by
  rw [payload_send]; unfold sendPay; rw [qPts_src]

theorem wp_copy (K : Dev nD × CellIx → ℕ) (c n : Dev nD) (hn : n = nxt c) (j : Fin 124)
    {hsc : (slotRef kvM (cslot j).succ (cquart j) : Memref sig (Dev.tc n : Thread nD τ).2.kind .vmem S128x512 .bf16).view.ref.isScScratch = false}
    {hsrc : (slotRef kvM (cslot j).castSucc (cquart j)).view.WordExact} {hdst : (slotRef kvM (cslot j).succ (cquart j)).view.WordExact}
    {hsem : DmaTarget.Typed .vmem (.dma (recvS j)) (.remote (Dev.tc n : Thread nD τ) (slotRef kvM (cslot j).succ (cquart j)) (.dma (sendS j)) hsc)}
    {α : Type} {Q : α → sProp 𝕄} {k : PUnit → Step F α} (fn : Vec F S32x4x128x512 .bf16) (W : Waits sig Unit) :
    iprop(cellInv ER (Rd I) (K (c, some (true, j))) (sendCell c j) ∗ cellInv ER (Rd I) (K (nxt c, some (false, j))) (recvCell (nxt c) j)
        ∗ qPts c (srcOf j) lent (kvAll I c) ∗ qPts (nxt c) (dstOf j) fullShare fn
        ∗ owes (c : Thread nD τ) (owedAt c j.val) W
        ∗ dutyTok ER (sendCell c j) 0 () ∗ reached ER (sendCell c j) 0
        ∗ dutyTok ER (recvCell (nxt c) j) 0 () ∗ reached ER (recvCell (nxt c) j) 0)
      ⊢ iprop(((cred (tallyAt (sendCell c j) () N) ∗ owes (c : Thread nD τ) (owedAt c (j.val + 1)) W) -∗ stepWp c (k ⟨⟩) Q)
          -∗ stepWp c (.op (.enqueueDma (slotRef kvM (cslot j).castSucc (cquart j))
              (.remote (Dev.tc n : Thread nD τ) (slotRef kvM (cslot j).succ (cquart j)) (.dma (sendS j)) hsc) (.dma (recvS j)) hsrc hdst hsem) k) Q) := by
  subst hn
  rw [qPts_src, qPts_dst]
  exact Rounds.wp_send_pointsTo 𝒱₀ ER (Rd I) (c : Thread nD τ) none (c' := (nxt c : Thread nD τ)) (src := slotRef kvM (cslot j).castSucc (cquart j))
    (dst := slotRef kvM (cslot j).succ (cquart j)) (sS := .dma (sendS j)) (sem := .dma (recvS j)) (fs := kvAll I c) (q := lent) (κ₁ := K (c, some (true, j))) (κ₂ := K (nxt c, some (false, j)))
    (r₁ := 0) (r₂ := 0) (d₁ := ()) (d₂ := ()) (fd := fn)
    (by rw [duties_of I c _ (send_used j)]; exact Finset.mem_singleton_self _) (by rw [duties_of I (nxt c) _ (recv_used j)]; exact Finset.mem_singleton_self _)
    () () N (credit _ _) (amount_send I c j) (amount_recv I (nxt c) j) (owedAt c (j.val + 1)) (owedAt_step c j) (W := W)
    (lending I c j) (landing I c j fn)

theorem copySt_done (c : Dev nD) {w s : ℕ} {j : Fin 124} (h : j.val < w) : copySt (F := F) c w s j = doneSt c j := if_pos h
theorem copySt_flying (c : Dev nD) {w s : ℕ} {j : Fin 124} (h : w ≤ j.val) (h' : j.val < s) : copySt (F := F) c w s j = flyingSt c j := by
  unfold copySt; rw [if_neg (by omega), if_pos h']
theorem copySt_idle (c : Dev nD) {w s : ℕ} {j : Fin 124} (h : w ≤ j.val) (h' : s ≤ j.val) : copySt (F := F) c w s j = idleSt c j := by
  unfold copySt; rw [if_neg (by omega), if_neg (by omega)]
theorem copySt_congr (c : Dev nD) {w s w' s' : ℕ} {j : Fin 124} (h : j.val < w ↔ j.val < w') (h' : j.val < s ↔ j.val < s') :
    copySt (F := F) c w s j = copySt c w' s' j := by unfold copySt; rw [if_congr h rfl (if_congr h' rfl rfl)]

theorem quarterSt_whole (c : Dev nD) {w s : ℕ} {j : Fin 128} (h : j.val < w + 4) (h' : ¬(w ≤ j.val ∧ j.val < s)) :
    quarterSt I c w s j = iprop(qPts c j kept (kvAll I c) ∗ qPts c j lent (kvAll I c)) := by
  unfold quarterSt; rw [if_pos h, if_neg h']
theorem quarterSt_lent (c : Dev nD) {w s : ℕ} {j : Fin 128} (h : j.val < w + 4) (h' : w ≤ j.val ∧ j.val < s) :
    quarterSt I c w s j = iprop(qPts c j kept (kvAll I c) ∗ emp) := by
  unfold quarterSt; rw [if_pos h, if_pos h']
theorem quarterSt_none (c : Dev nD) {w s : ℕ} {j : Fin 128} (h : w + 4 ≤ j.val) : quarterSt I c w s j = iprop(emp) := by
  unfold quarterSt; rw [if_neg (by omega)]
theorem quarterSt_congr (c : Dev nD) {w s w' s' : ℕ} {j : Fin 128} (h : j.val < w + 4 ↔ j.val < w' + 4)
    (h' : (w ≤ j.val ∧ j.val < s) ↔ (w' ≤ j.val ∧ j.val < s')) : quarterSt I c w s j = quarterSt I c w' s' j := by
  unfold quarterSt; rw [if_congr h (by rw [if_congr h' rfl rfl]) rfl]

abbrev kvW : (kvM : Memref sig .tc .vmem S32x4x128x512 .bf16).IsWhole := Memref.isWhole_whole _

/-- Sending copy `j`, the first of those not sent. -/
theorem send_step (K : Dev nD × CellIx → ℕ) (c : Dev nD) (w a : ℕ) (j : Fin 124) (hw : w ≤ j.val) (hs : j.val < w + 4) :
    Inv I c w j.val K a ⊢ stepWp c (send kvM kvW cc0_scratch4 cc0_scratch5 c (cslot j) (cquart j)) (fun _ => Inv I c w (j.val + 1) K a) := by
  unfold send Inv
  simp only [Prog.lift]
  iintro ⟨#Hr, #Hl, ⟨%W, HO⟩, HC, HQ, Hb⟩
  ihave HC' := (bigSep_univ_update (Φ := copySt (F := F) c w j.val) (Ψ := copySt (F := F) c w (j.val + 1)) j
    (fun i hi => copySt_congr c Iff.rfl (by have : i.val ≠ j.val := fun h => hi (Fin.ext h); omega))) $$ HC
  icases HC' with ⟨Hc, HC⟩
  ihave Hc' := (Entails.of_eq (copySt_idle c hw (le_refl _))) $$ Hc
  unfold idleSt
  icases Hc' with ⟨HatS, HatR, HcR, HtS, HtR, ⟨%fn, Hn⟩⟩
  ihave HQ' := (bigSep_univ_update (Φ := quarterSt I c w j.val) (Ψ := quarterSt I c w (j.val + 1)) (srcOf j)
    (fun i hi => quarterSt_congr I c Iff.rfl (by have : i.val ≠ j.val := fun h => hi (Fin.ext h); omega))) $$ HQ
  icases HQ' with ⟨Hq, HQ⟩
  ihave Hq' := (Entails.of_eq (quarterSt_whole I c (j := srcOf j) (w := w) (s := j.val) hs (fun h => Nat.lt_irrefl _ h.2))) $$ Hq
  icases Hq' with ⟨Hk, Hlent⟩
  ihave #Hi1 := (recs_inv I K (c, some (true, j))) $$ Hr
  ihave #Hi2 := (recs_inv I K (nxt c, some (false, j))) $$ Hr
  ihave #Hr1 := (recs_reached I K (c, some (true, j))) $$ Hr
  ihave #Hr2 := (recs_reached I K (nxt c, some (false, j))) $$ Hr
  iapply (wp_copy I K c _ (dev2_eq c) j fn W) $$ [Hlent Hn HO HtS HtR]
  · isplitr; · iexact Hi1
    isplitr; · iexact Hi2
    isplitl [Hlent]; · iexact Hlent
    isplitl [Hn]; · iexact Hn
    isplitl [HO]; · iexact HO
    isplitl [HtS]; · iexact HtS
    isplitr; · iexact Hr1
    isplitl [HtR]; · iexact HtR
    iexact Hr2
  iintro ⟨HcS, HO⟩
  rw [stepWp, wp_ret]; imodintro
  isplitr; · iexact Hr
  isplitr; · iexact Hl
  isplitl [HO]; · iexists W; iexact HO
  isplitl [HC HatS HatR HcR HcS]
  · iapply HC
    iapply (Entails.of_eq (copySt_flying c hw (Nat.lt_succ_self _)).symm)
    unfold flyingSt
    isplitl [HatS]; · iexact HatS
    isplitl [HatR]; · iexact HatR
    isplitl [HcR]; · iexact HcR
    iexact HcS
  isplitl [HQ Hk]
  · iapply HQ
    iapply (Entails.of_eq (quarterSt_lent I c (j := srcOf j) (w := w) (s := j.val + 1) hs ⟨hw, Nat.lt_succ_self _⟩).symm)
    isplitl [Hk]; · iexact Hk
    iempintro
  iexact Hb

/-- Waiting for copy `w`, the first of those not waited for: out of this device and into it. -/
theorem wait_step (K : Dev nD × CellIx → ℕ) (c : Dev nD) (s a : ℕ) (j : Fin 124) (hs : j.val < s) (hs' : s ≤ j.val + 4) :
    Inv I c j.val s K a ⊢ stepWp c (waits kvM kvW cc0_scratch4 cc0_scratch5 (cslot j) (cquart j)) (fun _ => Inv I c (j.val + 1) s K a) := by
  unfold waits Inv
  simp only [Prog.lift, Prog.bind_op, Prog.bind_ret]
  iintro ⟨#Hr, #Hl, ⟨%W, HO⟩, HC, HQ, Hb⟩
  ihave HC' := (bigSep_univ_update (Φ := copySt (F := F) c j.val s) (Ψ := copySt (F := F) c (j.val + 1) s) j
    (fun i hi => copySt_congr c (by have : i.val ≠ j.val := fun h => hi (Fin.ext h); omega) Iff.rfl)) $$ HC
  icases HC' with ⟨Hc, HC⟩
  ihave Hc' := (Entails.of_eq (copySt_flying c (le_refl _) hs)) $$ Hc
  unfold flyingSt
  icases Hc' with ⟨HatS, HatR, HcR, HcS⟩
  ihave #Hi1 := (recs_inv I K (c, some (true, j))) $$ Hr
  ihave #Hi2 := (recs_inv I K (c, some (false, j))) $$ Hr
  iapply (Rounds.wp_wait_rest_token 𝒱₀ ER (Rd I) (c : Thread nD τ) none (κ := K (c, some (true, j)))
      (wpE_waitDma2_eq 𝒱₀ (c : Thread nD τ) none Set.univ) (Set.mem_univ _) () (O := owedAt c s) (W := W) (R := 0) (m := 0) (T := ∅)
      (by rw [Nat.zero_add, expect_of I c _ (send_used j), amount_send I c j])) $$ [HcS HO HatS]
  · isplitr; · iexact Hi1
    isplitl [HcS]; · iexact HcS
    isplitl [HO]; · iexact HO
    isplitr; · iapply (mayWait_owed c (.dma (sendS j)) s (by rw [role_send]; show 0 < 2 + s; omega)); iexact Hl
    iexact HatS
  iintro ⟨HO, HatS, -, Hpay⟩
  ihave Hlent := (Entails.of_eq ((rest_of I c _ (send_used j)).trans (payload_send I c j))) $$ Hpay
  iapply (Rounds.wp_wait_rest_token 𝒱₀ ER (Rd I) (c : Thread nD τ) none (κ := K (c, some (false, j)))
      (wpE_waitDma2_eq 𝒱₀ (c : Thread nD τ) none Set.univ) (Set.mem_univ _) () (O := owedAt c s) (R := 0) (m := 0) (T := ∅)
      (by rw [Nat.zero_add, expect_of I c _ (recv_used j), amount_recv I c j])) $$ [HcR HO HatR]
  · isplitr; · iexact Hi2
    isplitl [HcR]; · iexact HcR
    isplitl [HO]; · iexact HO
    isplitr; · iapply (mayWait_owed c (.dma (recvS j)) s (by rw [role_recv]; show 2 + j.val < 2 + s; omega)); iexact Hl
    iexact HatR
  iintro ⟨HO, HatR, -, Hpay⟩
  ihave Hnew := (Entails.of_eq ((rest_of I c _ (recv_used j)).trans (payload_recv I c j))) $$ Hpay
  imod (Rounds.cell_close ER (Rd I) (Set.mem_univ (K (c, some (true, j)))) (fun h => h) (R := 0 + 1) (duties_later I (sendCell c j))) $$ [HatS] with HzS
  · isplitr; · iexact Hi1
    iexact HatS
  imod (Rounds.cell_close ER (Rd I) (Set.mem_univ (K (c, some (false, j)))) (fun h => h) (R := 0 + 1) (duties_later I (recvCell c j))) $$ [HatR] with HzR
  · isplitr; · iexact Hi2
    iexact HatR
  unfold sendPay recvPay
  ihave Hnew' := (qPts_halves c (dstOf j) (kvAll I c)).1 $$ Hnew
  -- the quarter sent out of is whole again; the one copied into is here
  ihave HQ' := (bigSep_univ_update (Φ := quarterSt I c j.val s)
    (Ψ := fun i => if i = srcOf j then iprop(qPts c i kept (kvAll I c) ∗ qPts c i lent (kvAll I c)) else quarterSt I c j.val s i) (srcOf j)
    (fun i hi => if_neg hi)) $$ HQ
  icases HQ' with ⟨Hq, HQ⟩
  ihave Hq' := (Entails.of_eq (quarterSt_lent I c (j := srcOf j) (w := j.val) (s := s) (by show j.val < j.val + 4; omega) ⟨le_refl _, hs⟩)) $$ Hq
  icases Hq' with ⟨Hk, -⟩
  ispecialize HQ $$ [Hk Hlent]
  · rw [if_pos rfl]
    isplitl [Hk]; · iexact Hk
    iexact Hlent
  ihave HQ' := (bigSep_univ_update
    (Φ := fun i => if i = srcOf j then iprop(qPts c i kept (kvAll I c) ∗ qPts c i lent (kvAll I c)) else quarterSt I c j.val s i)
    (Ψ := quarterSt I c (j.val + 1) s) (dstOf j) (fun i hi => by
      by_cases h : i = srcOf j
      · rw [if_pos h, h]; exact quarterSt_whole I c (by show j.val < j.val + 1 + 4; omega) (by show ¬(j.val + 1 ≤ j.val ∧ _); omega)
      · rw [if_neg h]
        have h1 : i.val ≠ j.val := fun e => h (Fin.ext e)
        have h2 : i.val ≠ j.val + 4 := fun e => hi (Fin.ext e)
        exact quarterSt_congr I c (by omega) (by omega))) $$ HQ
  icases HQ' with ⟨-, HQ⟩
  rw [wp_ret]; imodintro
  isplitr; · iexact Hr
  isplitr; · iexact Hl
  isplitl [HO]; · iexists _; iexact HO
  isplitl [HC HzS HzR]
  · iapply HC
    iapply (Entails.of_eq (copySt_done c (Nat.lt_succ_self _)).symm)
    unfold doneSt
    isplitl [HzS]; · iexact HzS
    iexact HzR
  isplitl [HQ Hnew']
  · iapply HQ
    iapply (Entails.of_eq (quarterSt_whole I c (j := dstOf j) (w := j.val + 1) (s := s) (by show j.val + 4 < j.val + 1 + 4; omega) (by show ¬(_ ∧ j.val + 4 < s); omega)).symm)
    iexact Hnew'
  iexact Hb

end Cert.KernelIdeal.Ring

end
-- ==== Proof.Attend.lean ====
/-
# The attention step, and the ring's steps in order
-/
module

public import proofs.«01_k».proof.Proof.Steps

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inputs F)

local notation "𝕄" => MT nD τ sig Unit (Elt F) ℕ UU ℕ

/-- The share of an arrived quarter that stays on the device. -/
theorem quarter_open (c : Dev nD) (w s : ℕ) (j : Fin 128) (h : j.val < w + 4) :
    bigSep Finset.univ (quarterSt I c w s)
      ⊢ iprop(qPts c j kept (kvAll I c) ∗ (qPts c j kept (kvAll I c) -∗ bigSep Finset.univ (quarterSt I c w s))) := by
  have e : quarterSt I c w s j = iprop(qPts c j kept (kvAll I c) ∗ (if w ≤ j.val ∧ j.val < s then iprop(emp) else qPts c j lent (kvAll I c))) := by
    unfold quarterSt; rw [if_pos h]
  refine (bigSep_univ_update (Φ := quarterSt I c w s) (Ψ := quarterSt I c w s) j (fun _ _ => rfl)).trans ?_
  rw [e]
  iintro ⟨⟨Hkept, Hrest⟩, Hk⟩
  isplitl [Hkept]; · iexact Hkept
  iintro Hkept
  iapply Hk
  isplitl [Hkept]; · iexact Hkept
  iexact Hrest

theorem blt_false {m n : ℕ} (h : ¬ m < n) : Nat.blt m n = false := Bool.eq_false_iff.mpr fun e => h (by rwa [Nat.blt_eq] at e)
theorem beq_false' {m n : ℕ} (h : ¬ m = n) : Nat.beq m n = false := Bool.eq_false_iff.mpr fun e => h (Nat.eq_of_beq_eq_true e)

/-- The quarters holding the keys and the values of a step. -/
abbrev keyQ (a : ℕ) : Fin 4 := (rowNo a).castLE (by decide)
abbrev valQ (a : ℕ) : Fin 4 := (rowNo a).natAdd 2
def keyAt (a : ℕ) : Fin 128 := ⟨4 * (slotNo a).val + (keyQ a).val, by have h := (slotNo a).isLt; have := (keyQ a).isLt; omega⟩
def valAt (a : ℕ) : Fin 128 := ⟨4 * (slotNo a).val + (valQ a).val, by have h := (slotNo a).isLt; have := (valQ a).isLt; omega⟩

theorem head_subset (j : Fin 128) (h : Fin 32) (q : Fin 4) (d : Fin 8) (e : j.val = 4 * h.val + q.val) :
    (kvM.access (rHead h q d)).set ⊆ qset j := by
  have q4 := q.isLt
  show ((View.whole cc0_scratch0).slice (rHead h q d)).set ⊆ _
  rw [View.set_slice_whole]
  intro i hi
  have hm := Rect.mem_set_unit.mp hi
  have h0 : h.val ≤ (i 0).val ∧ (i 0).val < h.val + 1 := hm 0
  have h1 : q.val ≤ (i 1).val ∧ (i 1).val < q.val + 1 := hm 1
  exact mem_qset.mpr ⟨by omega, by omega⟩

/-- One attention step on a slot whose quarters have arrived. -/
theorem attend_step (K : Dev nD × CellIx → ℕ) (c : Dev nD) (w s a : ℕ) (ha : a < 512) (hw : 4 * (a / 16) ≤ w) :
    Inv I c w s K a ⊢ stepWp c (attend kvM qM accM sumM (slotNo a) (rowNo a) (headNo a)) (fun _ => Inv I c w s K (a + 1)) := by
  have hslot : (slotNo a).val = a / 16 := Nat.mod_eq_of_lt (by omega)
  have hb : (rowNo a).val < 2 := (rowNo a).isLt
  have hk : (keyAt a).val < w + 4 := by show 4 * (slotNo a).val + (rowNo a).val < w + 4; omega
  have hv : (valAt a).val < w + 4 := by show 4 * (slotNo a).val + (2 + (rowNo a).val) < w + 4; omega
  unfold attend Inv
  simp only [Prog.lift, Prog.bind_op, Prog.bind_ret]
  iintro ⟨#Hr, #Hl, HO, HC, HQ, Hq, Hs, Ha⟩
  unfold bufPts
  iapply (wp_load 𝒱₀ (c : Thread nD τ) none Set.univ (m := qM) (Finset.subset_univ _)) $$ Hq; iintro Hq
  ihave HQ' := (quarter_open I c w s (keyAt a) hk) $$ HQ
  icases HQ' with ⟨Hk, HQ⟩
  unfold qPts
  iapply (wp_load_rect 𝒱₀ (c : Thread nD τ) none Set.univ (m := kvM) (r := rHead (slotNo a) (keyQ a) (headNo a)) (S := qset (keyAt a)) (q := kept) (f := kvAll I c)
    (head_subset (keyAt a) (slotNo a) (keyQ a) (headNo a) rfl)) $$ Hk; iintro Hk
  ispecialize HQ $$ Hk
  ihave HQ' := (quarter_open I c w s (valAt a) hv) $$ HQ
  icases HQ' with ⟨Hk, HQ⟩
  unfold qPts
  iapply (wp_load_rect 𝒱₀ (c : Thread nD τ) none Set.univ (m := kvM) (r := rHead (slotNo a) (valQ a) (headNo a)) (S := qset (valAt a)) (q := kept) (f := kvAll I c)
    (head_subset (valAt a) (slotNo a) (valQ a) (headNo a) rfl)) $$ Hk; iintro Hk
  ispecialize HQ $$ Hk
  iapply (wp_load 𝒱₀ (c : Thread nD τ) none Set.univ (m := sumM) (Finset.subset_univ _)) $$ Hs; iintro Hs
  iapply (wp_load 𝒱₀ (c : Thread nD τ) none Set.univ (m := sumM) (Finset.subset_univ _)) $$ Hs; iintro Hs
  iapply (wp_store 𝒱₀ (c : Thread nD τ) none Set.univ (m := sumM) (r := rSum (headIdx (rowNo a) (headNo a))) (Mk := Finset.univ) (Finset.subset_univ _)) $$ Hs; iintro Hs
  iapply (wp_load 𝒱₀ (c : Thread nD τ) none Set.univ (m := accM) (Finset.subset_univ _)) $$ Ha; iintro Ha
  iapply (wp_load 𝒱₀ (c : Thread nD τ) none Set.univ (m := accM) (Finset.subset_univ _)) $$ Ha; iintro Ha
  iapply (wp_store 𝒱₀ (c : Thread nD τ) none Set.univ (m := accM) (r := rAcc (headIdx (rowNo a) (headNo a))) (Mk := Finset.univ) (Finset.subset_univ _)) $$ Ha; iintro Ha
  rw [wp_ret]; imodintro
  isplitr; · iexact Hr
  isplitr; · iexact Hl
  isplitl [HO]; · iexact HO
  isplitl [HC]; · iexact HC
  isplitl [HQ]; · iexact HQ
  isplitl [Hq]; · iexact Hq
  isplitl [Hs]; · iexact Hs
  iexact Ha

/-! ## All the ring's steps -/

/-- Copies waited for, copies sent and attention steps done before step `n`. -/
def waitedAt (n : ℕ) : ℕ := if n / 24 = 0 then 0 else 4 * (n / 24 - 1) + min 4 ((n % 24 + 1) / 2)
def sentAt (n : ℕ) : ℕ := min 124 (4 * (n / 24) + min 4 (n % 24 / 2))
def doneAt (n : ℕ) : ℕ := 16 * (n / 24) + (n % 24 - 8)

abbrev ringItem (c : Dev nD) (n : ℕ) : Step F PUnit := item kvM kvW qM accM sumM cc0_scratch4 cc0_scratch5 c n

abbrev InvAt (K : Dev nD × CellIx → ℕ) (c : Dev nD) (n : ℕ) : sProp 𝕄 := Inv I c (waitedAt n) (sentAt n) K (doneAt n)

theorem InvAt_congr (K : Dev nD × CellIx → ℕ) (c : Dev nD) {w w' s s' a a' : ℕ} (hw : w = w') (hs : s = s') (ha : a = a') :
    Inv I c w s K a ⊢ Inv I c w' s' K a' := by subst hw hs ha; exact .rfl

theorem stepWp_mono {α : Type} (c : Dev nD) (p : Step F α) {Q Q' : α → sProp 𝕄} (h : ∀ x, Q x ⊢ Q' x) : stepWp c p Q ⊢ stepWp c p Q' :=
  wp_mono _ _ _ h

theorem skip_step (c : Dev nD) (P : sProp 𝕄) : P ⊢ stepWp c (pure ⟨⟩ : Step F PUnit) (fun _ => P) := by
  rw [stepWp, Prog.pure_eq_ret, wp_ret]; iintro H; imodintro; iexact H

theorem ring_step (K : Dev nD × CellIx → ℕ) (c : Dev nD) (n : ℕ) (hn : n < 768) :
    InvAt I K c n ⊢ stepWp c (ringItem c n) (fun _ => InvAt I K c (n + 1)) := by
  have hh : n / 24 < 32 := by omega
  unfold ringItem item
  by_cases h8 : n % 24 < 8
  · rw [show Nat.blt (n % 24) 8 = true by simpa using h8, cond_true]
    by_cases he : n % 2 = 0
    · rw [show Nat.beq (n % 2) 0 = true by simpa using he, cond_true]
      by_cases h0 : n < 24
      · rw [show Nat.blt n 24 = true by simpa using h0, cond_true]
        exact (InvAt_congr I K c (by unfold waitedAt; rw [if_pos (by omega), if_pos (by omega)]) (by unfold sentAt; omega) (by unfold doneAt; omega)).trans (skip_step c _)
      · rw [show Nat.blt n 24 = false from blt_false h0, cond_false]
        have hj : waitedAt n < 124 := by unfold waitedAt; rw [if_neg (by omega)]; omega
        have key := wait_step I K c (sentAt n) (doneAt n) ⟨waitedAt n, hj⟩
          (by show waitedAt n < sentAt n; unfold waitedAt sentAt; rw [if_neg (by omega)]; omega)
          (by show sentAt n ≤ waitedAt n + 4; unfold waitedAt sentAt; rw [if_neg (by omega)]; omega)
        have e1 : cslot ⟨waitedAt n, hj⟩ = Fin.ofNat 31 (n / 24 - 1) := Fin.ext (by
          show waitedAt n / 4 = (n / 24 - 1) % 31
          unfold waitedAt; rw [if_neg (by omega)]; omega)
        have e2 : cquart ⟨waitedAt n, hj⟩ = Fin.ofNat 4 (n % 24 / 2) := Fin.ext (by
          show waitedAt n % 4 = (n % 24 / 2) % 4
          unfold waitedAt; rw [if_neg (by omega)]; omega)
        rw [e1, e2] at key
        refine key.trans (stepWp_mono c _ fun _ => InvAt_congr I K c ?_ ?_ ?_)
        · show waitedAt n + 1 = waitedAt (n + 1)
          unfold waitedAt; rw [if_neg (by omega), if_neg (by omega)]; omega
        · unfold sentAt; omega
        · unfold doneAt; omega
    · rw [show Nat.beq (n % 2) 0 = false from beq_false' he, cond_false]
      by_cases h0 : n < 744
      · rw [show Nat.blt n 744 = true by simpa using h0, cond_true]
        have hj : sentAt n < 124 := by unfold sentAt; omega
        have key := send_step I K c (waitedAt n) (doneAt n) ⟨sentAt n, hj⟩
          (by show waitedAt n ≤ sentAt n; unfold waitedAt sentAt; split <;> omega)
          (by show sentAt n < waitedAt n + 4; unfold waitedAt sentAt; split <;> omega)
        have e1 : cslot ⟨sentAt n, hj⟩ = Fin.ofNat 31 (n / 24) := Fin.ext (by
          show sentAt n / 4 = (n / 24) % 31
          unfold sentAt; omega)
        have e2 : cquart ⟨sentAt n, hj⟩ = Fin.ofNat 4 (n % 24 / 2) := Fin.ext (by
          show sentAt n % 4 = (n % 24 / 2) % 4
          unfold sentAt; omega)
        rw [e1, e2] at key
        refine key.trans (stepWp_mono c _ fun _ => InvAt_congr I K c ?_ ?_ ?_)
        · unfold waitedAt; split <;> split <;> omega
        · show sentAt n + 1 = sentAt (n + 1)
          unfold sentAt; omega
        · unfold doneAt; omega
      · rw [show Nat.blt n 744 = false from blt_false h0, cond_false]
        exact (InvAt_congr I K c (by unfold waitedAt; split <;> split <;> omega) (by unfold sentAt; omega) (by unfold doneAt; omega)).trans (skip_step c _)
  · rw [show Nat.blt (n % 24) 8 = false from blt_false h8, cond_false]
    have key := attend_step I K c (waitedAt n) (sentAt n) (doneAt n) (by unfold doneAt; omega)
      (by unfold waitedAt doneAt; split <;> omega)
    have e1 : slotNo (doneAt n) = Fin.ofNat 32 (n / 24) := Fin.ext (by
      show doneAt n / 16 % 32 = n / 24 % 32; unfold doneAt; omega)
    have e2 : rowNo (doneAt n) = Fin.ofNat 2 ((n % 24 - 8) / 8) := Fin.ext (by
      show doneAt n % 16 / 8 % 2 = (n % 24 - 8) / 8 % 2; unfold doneAt; omega)
    have e3 : headNo (doneAt n) = Fin.ofNat 8 (n % 8) := Fin.ext (by
      show doneAt n % 8 % 8 = n % 8 % 8; unfold doneAt; omega)
    rw [e1, e2, e3] at key
    refine key.trans (stepWp_mono c _ fun _ => InvAt_congr I K c ?_ ?_ ?_)
    · unfold waitedAt; split <;> split <;> omega
    · unfold sentAt; omega
    · unfold doneAt; omega

theorem ring_steps (K : Dev nD × CellIx → ℕ) (c : Dev nD) (m : ℕ) :
    ∀ n, n + m ≤ 768 → InvAt I K c n ⊢ stepWp c (run (ringItem c) n m) (fun _ => InvAt I K c (n + m)) := by
  induction m with
  | zero => intro n _; exact skip_step c _
  | succ m ih =>
    intro n hn
    refine step_then c _ _ (ring_step I K c n (by omega)) fun _ => ?_
    rw [show n + (m + 1) = (n + 1) + m by omega]
    exact ih (n + 1) (by omega)

end Cert.KernelIdeal.Ring

end
-- ==== Proof.Segments.lean ====
module

public import proofs.«01_k».proof.Proof.Prog
public import Idealize.ShloMosaic.Lib.Pipeline.Regions

@[expose] public section
noncomputable section
namespace Cert.KernelIdeal.Ring
open Idealize.ShloMosaic Idealize.SL.Sem
open Cert.KernelIdeal.Gen
variable {F : FTy → Type} [FloatOps F]
variable (arg0 : Memref sig .tc .vmem S2x128x512 .bf16) (harg0 : arg0.IsWhole) (arg1 : Memref sig .tc .vmem S512x512 .bf16) (harg1 : arg1.IsWhole)
  (arg2 : Memref sig .tc .vmem S512x512 .bf16) (harg2 : arg2.IsWhole) (arg3 : Memref sig .tc .vmem S2x128x8x64 .bf16) (harg3 : arg3.IsWhole)
  (arg4 : Memref sig .tc .vmem S2x128x8x64 .bf16) (harg4 : arg4.IsWhole) (arg5 : Memref sig .tc .vmem S2x128x512 .f32) (harg5 : arg5.IsWhole)
  (arg6 : Memref sig .tc .vmem S32x4x128x512 .bf16) (harg6 : arg6.IsWhole) (arg7 : Memref sig .tc .vmem S2x128x512 .bf16) (harg7 : arg7.IsWhole)
  (arg8 : Memref sig .tc .vmem S16x128x64 .f32) (harg8 : arg8.IsWhole) (arg9 : Memref sig .tc .vmem S16x128x1 .f32) (harg9 : arg9.IsWhole)
  (arg10 arg11 : DmaSems sig S4x31)

/-- The printed body is the chain of the steps. -/
theorem body_eq :
    cc0_body (F := F) arg0 harg0 arg1 harg1 arg2 harg2 arg3 harg3 arg4 harg4 arg5 harg5 arg6 harg6 arg7 harg7 arg8 harg8 arg9 harg9 arg10 arg11
      = (do
          let d0 ← Prog.lift .deviceId
          prologue arg0 arg1 arg3 arg4 arg6 harg6 arg7 harg7 arg8 arg9 d0
          run (item arg6 harg6 arg7 arg8 arg9 arg10 arg11 d0) 0 768
          epilogue arg2 arg5 arg8 arg9) := by
  chain_rfl
end Cert.KernelIdeal.Ring
end
-- ==== Proof.Body.lean ====
/-
# The whole body of the kernel on one device

What comes before the ring (the entry handshake, the queries, the zeros, the device's own chunk), the ring, and the
output projection after it.
-/
module

public import proofs.«01_k».proof.Proof.Attend
public import proofs.«01_k».proof.Proof.Segments

@[expose] public section

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inputs F)

local notation "𝕄" => MT nD τ sig Unit (Elt F) ℕ UU ℕ

/-! ## Taking the slots apart and putting them together -/

theorem kv_apart (c : Dev nD) (f : Vec F S32x4x128x512 .bf16) :
    (bufPts c cc0_scratch0 f : sProp 𝕄)
      ⊢ iprop((kvLoc c ↦[slot0]{fullShare} f) ∗ bigSep Finset.univ fun j : Fin 124 => iprop(∃ g, qPts (F := F) c (dstOf j) fullShare g)) := by
  have hcover : (Finset.univ : Finset S32x4x128x512.Idx) \ slot0 = (Finset.univ : Finset (Fin 124)).biUnion fun j => qset (dstOf j) := by
    ext i
    have i0 : (i 0).val < 32 := (i 0).isLt
    have i1 : (i 1).val < 4 := (i 1).isLt
    simp only [Finset.mem_sdiff, Finset.mem_univ, true_and, slot0, Finset.mem_filter, Finset.mem_biUnion]
    constructor
    · intro h
      exact ⟨⟨4 * (i 0).val + (i 1).val - 4, by omega⟩, mem_qset.mpr
        ⟨by show (i 0).val = (4 * (i 0).val + (i 1).val - 4 + 4) / 4; omega, by show (i 1).val = (4 * (i 0).val + (i 1).val - 4 + 4) % 4; omega⟩⟩
    · rintro ⟨j, hj⟩ h
      have := (mem_qset.mp hj).1
      have e : (i 0).val = (j.val + 4) / 4 := this
      omega
  have hsub : slot0 ⊆ (Finset.univ : Finset S32x4x128x512.Idx) := Finset.subset_univ _
  unfold bufPts
  refine (pointsTo_split_subset (ℓ := kvLoc c) (I := slot0) (S := Finset.univ) hsub).1.trans (sep_mono_right ?_)
  have e : (kvLoc c ↦[(Finset.univ : Finset S32x4x128x512.Idx) \ slot0]{fullShare} f : sProp 𝕄)
      = bigSep Finset.univ fun j : Fin 124 => (qPts c (dstOf j) fullShare f : sProp 𝕄) := by
    rw [hcover]
    exact pointsTo_biUnion (ℓ := kvLoc c) Finset.univ (fun j : Fin 124 => qset (dstOf j)) fun i _ j _ h => qset_disjoint fun e => h (Fin.ext (by
      have := congrArg Fin.val e
      have e' : i.val + 4 = j.val + 4 := this
      omega))
  refine (Entails.of_eq e).trans (bigSep_mono fun j _ => ?_)
  show _ ⊢ iprop(∃ g, qPts (F := F) c (dstOf j) fullShare g)
  iintro H; iexists f; iexact H

/-- The quarters of slot 0, by number. -/
def first4 : Finset (Fin 128) := Finset.univ.filter fun j => j.val < 4

theorem slot0_eq : slot0 = first4.biUnion qset := by
  ext i
  have i1 : (i 1).val < 4 := (i 1).isLt
  simp only [slot0, first4, Finset.mem_filter, Finset.mem_univ, true_and, Finset.mem_biUnion]
  constructor
  · intro h; exact ⟨⟨(i 1).val, by omega⟩, i1, mem_qset.mpr ⟨by show (i 0).val = (i 1).val / 4; omega, by show (i 1).val = (i 1).val % 4; omega⟩⟩
  · rintro ⟨j, hj, hm⟩; have := (mem_qset.mp hm).1; omega

/-- Slot 0 filled is the quarters' state before the ring. -/
theorem quarters_start (c : Dev nD) :
    (kvLoc c ↦[slot0]{fullShare} kvAll I c : sProp 𝕄) ⊢ bigSep Finset.univ (quarterSt I c 0 0) := by
  have e : (kvLoc c ↦[slot0]{fullShare} kvAll I c : sProp 𝕄) = bigSep first4 fun j => (qPts c j fullShare (kvAll I c) : sProp 𝕄) := by
    rw [slot0_eq]
    exact pointsTo_biUnion (ℓ := kvLoc c) first4 qset fun i _ j _ h => qset_disjoint h
  have e' : bigSep Finset.univ (quarterSt I c 0 0) = bigSep first4 (quarterSt I c 0 0) := by
    have hu : (Finset.univ : Finset (Fin 128)) = first4 ∪ Finset.univ.filter (fun j => ¬ j.val < 4) := (Finset.filter_union_filter_not_eq _ _).symm
    rw [hu, bigSep_union (show Disjoint first4 _ from Finset.disjoint_filter_filter_not _ _ _),
      bigSep_congr (s := Finset.univ.filter (fun j : Fin 128 => ¬ j.val < 4)) (Ψ := fun _ => (BI.emp : sProp 𝕄)) (fun j hj =>
        quarterSt_none I c (w := 0) (s := 0) (j := j) (by have := (Finset.mem_filter.mp hj).2; omega)), bigSep_emp_const]
    exact equiv_iff.mp sep_emp
  rw [e, e']
  refine bigSep_mono fun j hj => ?_
  have hj4 : j.val < 4 := (Finset.mem_filter.mp hj).2
  rw [quarterSt_whole I c (w := 0) (s := 0) (j := j) (by omega) (by omega)]
  exact (qPts_halves c j (kvAll I c)).1

/-- After the ring all quarters are here: the whole buffer. -/
theorem quarters_end (c : Dev nD) : bigSep Finset.univ (quarterSt I c 124 124) ⊢ (bufPts c cc0_scratch0 (kvAll I c) : sProp 𝕄) := by
  have e : (bufPts c cc0_scratch0 (kvAll I c) : sProp 𝕄) = bigSep Finset.univ fun j => (qPts c j fullShare (kvAll I c) : sProp 𝕄) := by
    unfold bufPts
    show (kvLoc c ↦[(Finset.univ : Finset S32x4x128x512.Idx)]{fullShare} kvAll I c : sProp 𝕄) = _
    rw [← qset_cover]
    exact pointsTo_biUnion (ℓ := kvLoc c) Finset.univ qset fun i _ j _ h => qset_disjoint h
  rw [e]
  refine bigSep_mono fun j _ => ?_
  have := j.isLt
  rw [quarterSt_whole I c (w := 124) (s := 124) (j := j) (by omega) (by omega)]
  exact (qPts_halves c j (kvAll I c)).2

/-! ## Before and after -/

/-- The staged arguments. -/
def staged (c : Dev nD) : sProp 𝕄 :=
  iprop(bufPts c cc0_stg0_0 (I.x c) ∗ bufPts c cc0_stg1_0 (I.wq c) ∗ bufPts c cc0_stg2_0 (I.wo c) ∗ bufPts c cc0_stg3_0 (I.k c) ∗ bufPts c cc0_stg4_0 (I.v c))

/-- What a device holds of copy `j` at launch. -/
def copyStart (c : Dev nD) (j : Fin 124) : sProp 𝕄 :=
  iprop(atPos ER (sendCell c j) 0 ∅ 0 ∗ atPos ER (recvCell c j) 0 ∅ 0 ∗ cred (tallyAt (recvCell c j) () N)
    ∗ dutyTok ER (sendCell c j) 0 () ∗ dutyTok ER (recvCell (nxt c) j) 0 ())

/-- What a device's body starts from. -/
def startSt (K : Dev nD × CellIx → ℕ) (c : Dev nD) : sProp 𝕄 :=
  iprop(recs I K ∗ levAts L lv ∗ (∃ W, owes (c : Thread nD τ) (owedStart c) W)
    ∗ atPos ER (barCell c) 0 ∅ 0 ∗ cred (tallyAt (barCell c) () 1) ∗ dutyTok ER (barCell (prv c)) 0 ()
    ∗ bigSep Finset.univ (copyStart (F := F) c)
    ∗ (∃ f, bufPts c cc0_scratch0 f) ∗ (∃ f, bufPts c cc0_scratch1 f) ∗ (∃ f, bufPts c cc0_scratch2 f) ∗ (∃ f, bufPts c cc0_scratch3 f))

/-- What it ends with. -/
def finalSt (c : Dev nD) : sProp 𝕄 :=
  iprop((∃ W, owes (c : Thread nD τ) 0 W) ∗ semVal (barCell c) 0 ∗ bigSep Finset.univ (doneSt (F := F) c)
    ∗ (∃ f, bufPts c cc0_scratch0 f) ∗ (∃ f, bufPts c cc0_scratch1 f) ∗ (∃ f, bufPts c cc0_scratch2 f) ∗ (∃ f, bufPts c cc0_scratch3 f)
    ∗ staged I c ∗ bufPts c cc0_stg5_0 (outAt I c))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem read_k (f : Vec F S2x128x8x64 .bf16) : kM.view.readAt (Elt F) rHeads.toLoadRect f = f := Memref.readAt_unit_zero (Elt F) cc0_stg3_0 hz4 _ f
theorem read_v (f : Vec F S2x128x8x64 .bf16) : vM.view.readAt (Elt F) rHeads.toLoadRect f = f := Memref.readAt_unit_zero (Elt F) cc0_stg4_0 hz4 _ f
theorem write_sums (f w : Vec F S16x128x1 .f32) : (sumM.access rSums).write (Elt F) f w Finset.univ = w :=
  Memref.write_access_unit_zero_univ (Elt F) cc0_scratch3 hz3 _ f w
theorem write_accs (f w : Vec F S16x128x64 .f32) : (accM.access rAccs).write (Elt F) f w Finset.univ = w :=
  Memref.write_access_unit_zero_univ (Elt F) cc0_scratch2 hz3 _ f w

theorem pair_subset (p : Fin 2) : (kvM.access (rPair p)).setOn Finset.univ ⊆ slot0 := by
  rw [View.setOn_univ]
  show ((View.whole cc0_scratch0).slice (rPair p)).set ⊆ _
  rw [View.set_slice_whole]
  intro i hi
  exact Finset.mem_filter.mpr ⟨Finset.mem_univ _, ((mem_pair i p).mp hi).1⟩
theorem pair_subset' (p : Fin 2) : (kvM.access (rPair p)).set ⊆ slot0 := by
  have := pair_subset p; rwa [View.setOn_univ] at this

abbrev qW : (qM : Memref sig .tc .vmem S2x128x512 .bf16).IsWhole := Memref.isWhole_whole _

/-! ## The parts -/

theorem handshake_step (K : Dev nD × CellIx → ℕ) (c : Dev nD) :
    iprop(recs I K ∗ levAts L lv ∗ (∃ W, owes (c : Thread nD τ) (owedStart c) W)
        ∗ atPos ER (barCell c) 0 ∅ 0 ∗ cred (tallyAt (barCell c) () 1) ∗ dutyTok ER (barCell (prv c)) 0 ()
        ∗ bigSep Finset.univ fun j : Fin 124 => iprop(∃ g, qPts (F := F) c (dstOf j) fullShare g))
      ⊢ stepWp c (handshake (F := F) c) (fun _ => iprop((∃ W, owes (c : Thread nD τ) (owedAt c 0) W) ∗ semVal (barCell c) 0
        ∗ bigSep Finset.univ fun j : Fin 124 => iprop(∃ g, qPts (F := F) (nxt c) (dstOf j) fullShare g))) := by
  unfold handshake
  simp only [semSignalWord, semWaitWord, Prog.lift, Prog.bind_op, Prog.bind_ret]
  simp only [dev1_eq c]
  iintro ⟨#Hr, #Hl, ⟨%W, HO⟩, HatB, HcB, Ht, Hq⟩
  ihave #Hi := (recs_inv I K (c, none)) $$ Hr
  ihave #HiP := (recs_inv I K (prv c, none)) $$ Hr
  ihave #HrP := (recs_reached I K (prv c, none)) $$ Hr
  iapply (Rounds.wp_signal 𝒱₀ ER (Rd I) (c : Thread nD τ) none (dst := (prv c : Thread nD τ)) (κ := K (prv c, none))
      (d := ()) (by rw [duties_of I (prv c) _ bar_used]; exact Finset.mem_univ _) ((amount_bar I (prv c)).trans (by decide)) () (owedAt c 0) rfl)
    $$ [HO Ht Hq]
  · isplitr; · iexact HiP
    isplitl [HO]; · iexact HO
    isplitl [Ht]; · iexact Ht
    isplitl [Hq]
    · rw [payload_bar]; unfold barPay; rw [nxt_prv]; iexact Hq
    iexact HrP
  iintro HO
  iapply (Rounds.wp_wait_rest_token 𝒱₀ ER (Rd I) (c : Thread nD τ) none (κ := K (c, none))
      (wpE_semWait_eq 𝒱₀ (c : Thread nD τ) none Set.univ) (Set.mem_univ _) () (O := owedAt c 0) (W := W) (R := 0) (m := 0) (T := ∅)
      (by rw [expect_of I c _ bar_used, amount_bar]; decide)) $$ [HcB HO HatB]
  · isplitr; · iexact Hi
    isplitl [HcB]; · iexact HcB
    isplitl [HO]; · iexact HO
    isplitr; · iapply (mayWait_owed c (.reg barSem) 0 (by rw [role_bar]; show 1 < 2 + 0; omega)); iexact Hl
    iexact HatB
  iintro ⟨HO, HatB, -, Hpay⟩
  ihave Hq := (Entails.of_eq ((rest_of I c _ bar_used).trans (payload_bar I c))) $$ Hpay
  unfold barPay
  imod (Rounds.cell_close ER (Rd I) (Set.mem_univ (K (c, none))) (fun h => h) (R := 0 + 1) (duties_later I (barCell c))) $$ [HatB] with HzB
  · isplitr; · iexact Hi
    iexact HatB
  rw [wp_ret]; imodintro
  isplitl [HO]; · iexists _; iexact HO
  isplitl [HzB]; · iexact HzB
  iexact Hq

theorem queries_step (c : Dev nD) (b : Fin 2) (f : Vec F S2x128x512 .bf16) :
    iprop(bufPts c cc0_stg0_0 (I.x c) ∗ bufPts c cc0_stg1_0 (I.wq c) ∗ bufPts c cc0_scratch1 f)
      ⊢ stepWp c (queries xM wqM qM qW b) (fun _ => iprop(bufPts c cc0_stg0_0 (I.x c) ∗ bufPts c cc0_stg1_0 (I.wq c)
        ∗ bufPts c cc0_scratch1 ((qM.access (rRow b)).write (Elt F) f (queryRow I c b) Finset.univ))) := by
  unfold queries
  simp only [Prog.lift, Prog.bind_op, Prog.bind_ret]
  unfold bufPts
  iintro ⟨Hx, Hw, Hq⟩
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hw; iintro Hw
  iapply (wp_load 𝒱₀ (c : Thread nD τ) none Set.univ (m := qM) (Finset.subset_univ _)) $$ Hq; iintro Hq
  iapply (wp_store 𝒱₀ (c : Thread nD τ) none Set.univ (m := qM) (r := rRow b) (Mk := Finset.univ) (Finset.subset_univ _)) $$ Hq; iintro Hq
  rw [wp_ret]; imodintro
  isplitl [Hx]; · iexact Hx
  isplitl [Hw]; · iexact Hw
  iexact Hq

theorem zeros_step (c : Dev nD) (f : Vec F S16x128x64 .f32) (g : Vec F S16x128x1 .f32) :
    iprop(bufPts c cc0_scratch2 f ∗ bufPts c cc0_scratch3 g)
      ⊢ stepWp c (zeros accM sumM) (fun _ => iprop(bufPts c cc0_scratch2 (accs I c 0) ∗ bufPts c cc0_scratch3 (sums I c 0))) := by
  unfold zeros
  simp only [Prog.lift, Prog.bind_op, Prog.bind_ret]
  unfold bufPts
  iintro ⟨Ha, Hs⟩
  iapply (wp_load 𝒱₀ (c : Thread nD τ) none Set.univ (m := sumM) (Finset.subset_univ _)) $$ Hs; iintro Hs
  iapply (wp_store 𝒱₀ (c : Thread nD τ) none Set.univ (m := sumM) (r := rSums) (Mk := Finset.univ) (Finset.subset_univ _)) $$ Hs; iintro Hs
  iapply (wp_load 𝒱₀ (c : Thread nD τ) none Set.univ (m := accM) (Finset.subset_univ _)) $$ Ha; iintro Ha
  iapply (wp_store 𝒱₀ (c : Thread nD τ) none Set.univ (m := accM) (r := rAccs) (Mk := Finset.univ) (Finset.subset_univ _)) $$ Ha; iintro Ha
  rw [write_sums, write_accs, wp_ret]; imodintro
  isplitl [Ha]; · iexact Ha
  iexact Hs

theorem keys_step (c : Dev nD) (f : Vec F S32x4x128x512 .bf16) :
    iprop(bufPts c cc0_stg3_0 (I.k c) ∗ (kvLoc c ↦[slot0]{fullShare} f))
      ⊢ stepWp c (ownChunk kvM kvW kM 0) (fun _ => iprop(bufPts c cc0_stg3_0 (I.k c)
        ∗ (kvLoc c ↦[slot0]{fullShare} (kvM.access (rPair 0)).write (Elt F) f (chunkVal (I.k c)) Finset.univ))) := by
  unfold ownChunk
  simp only [Prog.lift, Prog.bind_op, Prog.bind_ret]
  unfold bufPts
  iintro ⟨Hk, Hs⟩
  iapply (wp_load 𝒱₀ (c : Thread nD τ) none Set.univ (m := kM) (Finset.subset_univ _)) $$ Hk; iintro Hk
  rw [read_k]
  iapply (wp_load_rect 𝒱₀ (c : Thread nD τ) none Set.univ (m := kvM) (r := rPair 0) (S := slot0) (q := fullShare) (f := f) (pair_subset' 0)) $$ Hs; iintro Hs
  iapply (wp_store 𝒱₀ (c : Thread nD τ) none Set.univ (m := kvM) (r := rPair 0) (Mk := Finset.univ) (S := slot0) (f := f) (pair_subset 0)) $$ Hs; iintro Hs
  rw [wp_ret]; imodintro
  isplitl [Hk]; · iexact Hk
  iexact Hs

theorem values_step (c : Dev nD) (f : Vec F S32x4x128x512 .bf16) :
    iprop(bufPts c cc0_stg4_0 (I.v c) ∗ (kvLoc c ↦[slot0]{fullShare} f))
      ⊢ stepWp c (ownChunk kvM kvW vM 1) (fun _ => iprop(bufPts c cc0_stg4_0 (I.v c)
        ∗ (kvLoc c ↦[slot0]{fullShare} (kvM.access (rPair 1)).write (Elt F) f (chunkVal (I.v c)) Finset.univ))) := by
  unfold ownChunk
  simp only [Prog.lift, Prog.bind_op, Prog.bind_ret]
  unfold bufPts
  iintro ⟨Hk, Hs⟩
  iapply (wp_load 𝒱₀ (c : Thread nD τ) none Set.univ (m := vM) (Finset.subset_univ _)) $$ Hk; iintro Hk
  rw [read_v]
  iapply (wp_load_rect 𝒱₀ (c : Thread nD τ) none Set.univ (m := kvM) (r := rPair 1) (S := slot0) (q := fullShare) (f := f) (pair_subset' 1)) $$ Hs; iintro Hs
  iapply (wp_store 𝒱₀ (c : Thread nD τ) none Set.univ (m := kvM) (r := rPair 1) (Mk := Finset.univ) (S := slot0) (f := f) (pair_subset 1)) $$ Hs; iintro Hs
  rw [wp_ret]; imodintro
  isplitl [Hk]; · iexact Hk
  iexact Hs

theorem idle_intro (c : Dev nD) (j : Fin 124) :
    iprop(copyStart (F := F) c j ∗ ∃ g, qPts (F := F) (nxt c) (dstOf j) fullShare g) ⊢ idleSt (F := F) c j := by
  unfold copyStart idleSt
  iintro ⟨⟨A, B, C, D, E⟩, G⟩
  isplitl [A]; · iexact A
  isplitl [B]; · iexact B
  isplitl [C]; · iexact C
  isplitl [D]; · iexact D
  isplitl [E]; · iexact E
  iexact G

/-- Everything before the ring. -/
theorem prologue_step (K : Dev nD × CellIx → ℕ) (c : Dev nD) :
    iprop(startSt I K c ∗ staged I c)
      ⊢ stepWp c (prologue xM wqM kM vM kvM kvW qM qW accM sumM c) (fun _ => iprop(InvAt I K c 0 ∗ staged I c ∗ semVal (barCell c) 0)) := by
  unfold prologue startSt staged
  simp only [stepWp, wp_bind]
  iintro ⟨⟨#Hr, #Hl, HO, HatB, HcB, Ht, HC, ⟨%f0, H0⟩, ⟨%f1, H1⟩, ⟨%f2, H2⟩, ⟨%f3, H3⟩⟩, Hx, Hwq, Hwo, Hk, Hv⟩
  ihave H0' := (kv_apart c f0) $$ H0
  icases H0' with ⟨H0, Hq⟩
  iapply (wp_wand_r frame (wpE (defs₀ (F := F)) 𝒱₀ (c : Thread nD τ) none) Set.univ)
  isplitl [HO HatB HcB Ht Hq]
  · iapply (handshake_step I K c)
    isplitr; · iexact Hr
    isplitr; · iexact Hl
    isplitl [HO]; · iexact HO
    isplitl [HatB]; · iexact HatB
    isplitl [HcB]; · iexact HcB
    isplitl [Ht]; · iexact Ht
    iexact Hq
  iintro %_ ⟨HO, HzB, Hq⟩
  iapply (wp_wand_r frame (wpE (defs₀ (F := F)) 𝒱₀ (c : Thread nD τ) none) Set.univ)
  isplitl [Hx Hwq H1]
  · iapply (queries_step I c 0 f1)
    isplitl [Hx]; · iexact Hx
    isplitl [Hwq]; · iexact Hwq
    iexact H1
  iintro %_ ⟨Hx, Hwq, H1⟩
  iapply (wp_wand_r frame (wpE (defs₀ (F := F)) 𝒱₀ (c : Thread nD τ) none) Set.univ)
  isplitl [Hx Hwq H1]
  · iapply (queries_step I c 1 _)
    isplitl [Hx]; · iexact Hx
    isplitl [Hwq]; · iexact Hwq
    iexact H1
  iintro %_ ⟨Hx, Hwq, H1⟩
  rw [rows_query]
  iapply (wp_wand_r frame (wpE (defs₀ (F := F)) 𝒱₀ (c : Thread nD τ) none) Set.univ)
  isplitl [H2 H3]
  · iapply (zeros_step I c f2 f3)
    isplitl [H2]; · iexact H2
    iexact H3
  iintro %_ ⟨H2, H3⟩
  iapply (wp_wand_r frame (wpE (defs₀ (F := F)) 𝒱₀ (c : Thread nD τ) none) Set.univ)
  isplitl [Hk H0]
  · iapply (keys_step I c f0)
    isplitl [Hk]; · iexact Hk
    iexact H0
  iintro %_ ⟨Hk, H0⟩
  iapply (wp_wand_r frame (wpE (defs₀ (F := F)) 𝒱₀ (c : Thread nD τ) none) Set.univ)
  isplitl [Hv H0]
  · iapply (values_step I c _)
    isplitl [Hv]; · iexact Hv
    iexact H0
  iintro %_ ⟨Hv, H0⟩
  ihave H0' := (Entails.of_eq (pointsTo_congr (ℓ := kvLoc c) fun i hi => slot0_filled I c f0 i hi)) $$ H0
  ihave HQ := (quarters_start I c) $$ H0'
  isplitl [HO HC Hq HQ H1 H2 H3]
  · rw [show InvAt I K c 0 = Inv I c 0 0 K 0 from rfl]
    unfold Inv
    isplitr; · iexact Hr
    isplitr; · iexact Hl
    isplitl [HO]; · iexact HO
    isplitl [HC Hq]
    · iapply (show iprop(bigSep Finset.univ (copyStart (F := F) c) ∗ bigSep Finset.univ fun j : Fin 124 => iprop(∃ g, qPts (F := F) (nxt c) (dstOf j) fullShare g))
          ⊢ bigSep Finset.univ (copySt (F := F) c 0 0) from by
        rw [← bigSep_sep']
        refine bigSep_mono fun j _ => ?_
        rw [copySt_idle c (Nat.zero_le _) (Nat.zero_le _)]
        exact idle_intro c j)
      isplitl [HC]; · iexact HC
      iexact Hq
    isplitl [HQ]; · iexact HQ
    isplitl [H1]; · iexact H1
    isplitl [H3]; · iexact H3
    iexact H2
  isplitr [HzB]
  · isplitl [Hx]; · iexact Hx
    isplitl [Hwq]; · iexact Hwq
    isplitl [Hwo]; · iexact Hwo
    isplitl [Hk]; · iexact Hk
    iexact Hv
  iexact HzB

/-! ## After the ring -/

/-- What the projection reads. -/
def finished (c : Dev nD) : sProp 𝕄 :=
  iprop(bufPts c cc0_stg2_0 (I.wo c) ∗ bufPts c cc0_scratch3 (sums I c 512) ∗ bufPts c cc0_scratch2 (accs I c 512))

theorem project_step (c : Dev nD) (b : Fin 2) (d : Fin 8) (o : FVec F S128x512 .f32) :
    finished I c ⊢ stepWp c (project woM accM sumM b d o) (fun r => iprop(⌜r = projStep I c b d o⌝ ∗ finished I c)) := by
  unfold project finished
  simp only [Prog.lift, Prog.bind_op, Prog.bind_ret, Prog.pure_eq_ret]
  unfold bufPts
  iintro ⟨Hw, Hs, Ha⟩
  iapply (wp_load 𝒱₀ (c : Thread nD τ) none Set.univ (m := accM) (Finset.subset_univ _)) $$ Ha; iintro Ha
  iapply (wp_load 𝒱₀ (c : Thread nD τ) none Set.univ (m := sumM) (Finset.subset_univ _)) $$ Hs; iintro Hs
  iapply (wp_load 𝒱₀ (c : Thread nD τ) none Set.univ (m := woM) (Finset.subset_univ _)) $$ Hw; iintro Hw
  rw [wp_ret]; imodintro
  isplitr; · ipureintro; rfl
  isplitl [Hw]; · iexact Hw
  isplitl [Hs]; · iexact Hs
  iexact Ha

theorem projects_step (c : Dev nD) (b : Fin 2) : ∀ (n i : ℕ) (o : FVec F S128x512 .f32),
    finished I c ⊢ stepWp c (projects woM accM sumM b i n o) (fun r => iprop(⌜r = projAll I c b i n o⌝ ∗ finished I c))
  | 0, i, o => by
    show _ ⊢ stepWp c (pure o) _
    rw [stepWp, Prog.pure_eq_ret, wp_ret]; iintro H; imodintro
    isplitr; · ipureintro; rfl
    iexact H
  | n + 1, i, o => by
    refine step_then c _ _ (project_step I c b (Fin.ofNat 8 i) o) fun r => ?_
    iintro ⟨%hr, H⟩
    subst hr
    iapply (projects_step c b n (i + 1) _)
    iexact H

theorem result_step (c : Dev nD) (b : Fin 2) (f : Vec F S2x128x512 .f32) :
    iprop(finished I c ∗ bufPts c cc0_stg5_0 f) ⊢ stepWp c (result woM oM accM sumM b) (fun _ => iprop(finished I c
      ∗ bufPts c cc0_stg5_0 ((oM.access (rRow b)).write (Elt F) f (shapeCast S1x128x512 (projAll I c b 0 8 zeroOut) shapeCasts_S128x512_S1x128x512) Finset.univ))) := by
  unfold result
  simp only [stepWp, wp_bind]
  iintro ⟨HF, Ho⟩
  iapply (wp_wand_r frame (wpE (defs₀ (F := F)) 𝒱₀ (c : Thread nD τ) none) Set.univ)
  isplitl [HF]
  · iapply (projects_step I c b 8 0 zeroOut); iexact HF
  iintro %o ⟨%ho, HF⟩
  subst ho
  unfold bufPts
  simp only [Prog.lift]
  iapply (wp_load 𝒱₀ (c : Thread nD τ) none Set.univ (m := oM) (Finset.subset_univ _)) $$ Ho; iintro Ho
  rw [wp_ret]; imodintro
  iapply (wp_store 𝒱₀ (c : Thread nD τ) none Set.univ (m := oM) (r := rRow b) (Mk := Finset.univ) (Finset.subset_univ _)) $$ Ho; iintro Ho
  rw [wp_ret]; imodintro
  isplitl [HF]; · iexact HF
  iexact Ho

/-- Everything after the ring. -/
theorem epilogue_step (K : Dev nD × CellIx → ℕ) (c : Dev nD) :
    iprop((InvAt I K c 768 ∗ staged I c ∗ semVal (barCell c) 0) ∗ ∃ f, bufPts c cc0_stg5_0 f)
      ⊢ stepWp c (epilogue woM oM accM sumM) (fun _ => finalSt I c) := by
  show iprop((Inv I c 124 124 K 512 ∗ staged I c ∗ semVal (barCell c) 0) ∗ ∃ f, bufPts c cc0_stg5_0 f) ⊢ _
  unfold epilogue Inv staged finalSt
  simp only [stepWp, wp_bind]
  iintro ⟨⟨⟨-, -, HO, HC, HQ, H1, H3, H2⟩, ⟨Hx, Hwq, Hwo, Hk, Hv⟩, HzB⟩, ⟨%f, Ho⟩⟩
  iapply (wp_wand_r frame (wpE (defs₀ (F := F)) 𝒱₀ (c : Thread nD τ) none) Set.univ)
  isplitl [Hwo H3 H2 Ho]
  · iapply (result_step I c 0 f)
    unfold finished
    isplitr [Ho]
    · isplitl [Hwo]; · iexact Hwo
      isplitl [H3]; · iexact H3
      iexact H2
    iexact Ho
  iintro %_ ⟨HF, Ho⟩
  iapply (wp_wand_r frame (wpE (defs₀ (F := F)) 𝒱₀ (c : Thread nD τ) none) Set.univ)
  isplitl [HF Ho]
  · iapply (result_step I c 1 _)
    isplitl [HF]; · iexact HF
    iexact Ho
  iintro %_ ⟨HF, Ho⟩
  rw [rows_out (w := fun b => shapeCast S1x128x512 (projAll I c b 0 8 zeroOut) shapeCasts_S128x512_S1x128x512)]
  unfold finished
  icases HF with ⟨Hwo, H3, H2⟩
  ihave H0 := (quarters_end I c) $$ HQ
  rw [Prog.pure_eq_ret, wp_ret]; imodintro
  isplitl [HO]; · rw [owedAt_end c 124 (le_refl _)]; iexact HO
  isplitl [HzB]; · iexact HzB
  isplitl [HC]
  · iapply (show bigSep Finset.univ (copySt (F := F) c 124 124) ⊢ bigSep Finset.univ (doneSt (F := F) c) from
      bigSep_mono fun j _ => Entails.of_eq (copySt_done c j.isLt)); iexact HC
  isplitl [H0]; · iexists _; iexact H0
  isplitl [H1]; · iexists _; iexact H1
  isplitl [H2]; · iexists _; iexact H2
  isplitl [H3]; · iexists _; iexact H3
  unfold staged
  isplitr [Ho]
  · isplitl [Hx]; · iexact Hx
    isplitl [Hwq]; · iexact Hwq
    isplitl [Hwo]; · iexact Hwo
    isplitl [Hk]; · iexact Hk
    iexact Hv
  iexact Ho

/-- The body on device `c`. -/
theorem body_step (K : Dev nD × CellIx → ℕ) (c : Dev nD)
    (h0 : xM.IsWhole) (h1 : wqM.IsWhole) (h2 : woM.IsWhole) (h3 : kM.IsWhole) (h4 : vM.IsWhole) (h5 : oM.IsWhole) (h6 : kvM.IsWhole)
    (h7 : qM.IsWhole) (h8 : accM.IsWhole) (h9 : sumM.IsWhole) :
    iprop((startSt I K c ∗ staged I c) ∗ ∃ f, bufPts c cc0_stg5_0 f)
      ⊢ stepWp c (cc0_body (F := F) xM h0 wqM h1 woM h2 kM h3 vM h4 oM h5 kvM h6 qM h7 accM h8 sumM h9 cc0_scratch4 cc0_scratch5) (fun _ => finalSt I c) := by
  rw [body_eq]
  simp only [Prog.lift, Prog.bind_op, Prog.bind_ret, stepWp, wp_deviceId]
  simp only [wp_bind]
  iintro ⟨H, Ho⟩
  iapply (wp_wand_r frame (wpE (defs₀ (F := F)) 𝒱₀ (c : Thread nD τ) none) Set.univ)
  isplitl [H]
  · iapply (prologue_step I K c); iexact H
  iintro %_ ⟨HI, Hst, HzB⟩
  iapply (wp_wand_r frame (wpE (defs₀ (F := F)) 𝒱₀ (c : Thread nD τ) none) Set.univ)
  isplitl [HI]
  · iapply (ring_steps I K c 768 0 (by omega)); iexact HI
  iintro %_ HI
  iapply (epilogue_step I K c)
  isplitr [Ho]
  · isplitl [HI]; · iexact HI
    isplitl [Hst]; · iexact Hst
    iexact HzB
  iexact Ho

end Cert.KernelIdeal.Ring

end
-- ==== Proof.Run.lean ====
/-
# The run of the ring on all devices

From any memory with zero counters, the kernel on 32 devices: the ring cells are allocated and dealt, each device's body
runs, and the result array of each device ends holding `outAt` of the devices' arguments.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The devices' arguments, read from memory. -/
def inputs : Inputs F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg4))
  k c := (win0_3.blk (0 : Fin 1)).view.read (Elt F) (m ((c : Thread nD τ).loc main_arg2))
  v c := (win0_4.blk (0 : Fin 1)).view.read (Elt F) (m ((c : Thread nD τ).loc main_arg3))

/-! ## The body's obligation -/

/-- What a device's body starts from, but for what it owes and its scratch buffers. -/
def ghost (K : Dev nD × CellIx → ℕ) (c : Dev nD) : sProp 𝕄 :=
  iprop(recs (inputs m) K ∗ atPos ER (barCell c) 0 ∅ 0 ∗ dutyTok ER (barCell (prv c)) 0 ()
    ∗ bigSep Finset.univ fun j : Fin 124 => iprop(atPos ER (sendCell c j) 0 ∅ 0 ∗ atPos ER (recvCell c j) 0 ∅ 0
        ∗ dutyTok ER (sendCell c j) 0 () ∗ dutyTok ER (recvCell (nxt c) j) 0 ()))

def creditsAt (c : Dev nD) : sProp 𝕄 :=
  iprop(cred (tallyAt (barCell c) () 1) ∗ bigSep Finset.univ fun j : Fin 124 => cred (tallyAt (recvCell c j) () N))

def start (c : Dev nD) : sProp 𝕄 := iprop((∃ K, ghost m K c) ∗ creditsAt (F := F) c ∗ levAts L lv)

def scratch (c : Dev nD) : sProp 𝕄 :=
  iprop((∃ f, bufPts (F := F) c cc0_scratch0 f) ∗ (∃ f, bufPts (F := F) c cc0_scratch1 f) ∗ (∃ f, bufPts (F := F) c cc0_scratch2 f) ∗ (∃ f, bufPts (F := F) c cc0_scratch3 f))

def Φ₀ (c : Dev nD) : sProp 𝕄 := iprop(start m c ∗ scratch (F := F) c)
def Φ₁ (c : Dev nD) : sProp 𝕄 := iprop(scratch (F := F) c ∗ bigSep Finset.univ (doneSt (F := F) c) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m).x c
    | ⟨1, _⟩ => (inputs m).wq c
    | ⟨2, _⟩ => (inputs m).wo c
    | ⟨3, _⟩ => (inputs m).k c
    | ⟨4, _⟩ => (inputs m).v c
    | ⟨5, _⟩ => outAt (inputs m) c
  Φ t := match t with
    | ⟨0, _⟩ => Φ₀ m c
    | ⟨_ + 1, _⟩ => Φ₁ c
  q _ := fullShare
  owed t := match t with
    | ⟨0, _⟩ => owedStart c
    | ⟨_ + 1, _⟩ => 0

omit [FloatOps F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem fetch_in (w : Fin cfg0.W) (h : w.val < 5) (t : Fin cfg0.N) : (cfg0.win w).fetch t = true := by
  rw [show t = t0_0 from fin_N0 t]
  revert w; decide

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev tt : Fin cfg0.N := t0_0

def bodyPre (c : Dev nD) : sProp 𝕄 :=
  iprop(Φ₀ m c ∗ (dats m ρ 0 c).owesAt () tt.castSucc
    ∗ (∃ d, stg c cc0_stg0_0 ((dats m ρ 0 c).before (0 : Fin 6) tt d))
    ∗ (∃ d, stg c cc0_stg1_0 ((dats m ρ 0 c).before (1 : Fin 6) tt d))
    ∗ (∃ d, stg c cc0_stg2_0 ((dats m ρ 0 c).before (2 : Fin 6) tt d))
    ∗ (∃ d, stg c cc0_stg3_0 ((dats m ρ 0 c).before (3 : Fin 6) tt d))
    ∗ (∃ d, stg c cc0_stg4_0 ((dats m ρ 0 c).before (4 : Fin 6) tt d))
    ∗ (∃ d, stg c cc0_stg5_0 ((dats m ρ 0 c).before (5 : Fin 6) tt d)))

def bodyPost (c : Dev nD) : sProp 𝕄 :=
  iprop(Φ₁ c ∗ (dats m ρ 0 c).owesAt () tt.succ
    ∗ stg c cc0_stg0_0 ((inputs m).x c) ∗ stg c cc0_stg1_0 ((inputs m).wq c) ∗ stg c cc0_stg2_0 ((inputs m).wo c)
    ∗ stg c cc0_stg3_0 ((inputs m).k c) ∗ stg c cc0_stg4_0 ((inputs m).v c) ∗ stg c cc0_stg5_0 (outAt (inputs m) c))

theorem stg_bufPts (c : Dev nD) (b : Ref sig .tc) (X : b.ty.Contents (Elt F)) : stg (F := F) c b X ⊢ bufPts c b X := by
  unfold bufPts; iintro ⟨%f, %h, H⟩; subst h; iexact H
theorem bufPts_stg (c : Dev nD) (b : Ref sig .tc) (X : b.ty.Contents (Elt F)) : bufPts (F := F) c b X ⊢ stg c b X := by
  unfold bufPts; iintro H; iexists X; isplitr; · ipureintro; rfl
  iexact H

theorem before_0 (c : Dev nD) (d) : (dats m ρ 0 c).before (0 : Fin 6) tt d = (inputs m).x c := by
  unfold Dat.before; rw [if_pos (fetch_in 0 (by decide) tt)]; rfl
theorem before_1 (c : Dev nD) (d) : (dats m ρ 0 c).before (1 : Fin 6) tt d = (inputs m).wq c := by
  unfold Dat.before; rw [if_pos (fetch_in 1 (by decide) tt)]; rfl
theorem before_2 (c : Dev nD) (d) : (dats m ρ 0 c).before (2 : Fin 6) tt d = (inputs m).wo c := by
  unfold Dat.before; rw [if_pos (fetch_in 2 (by decide) tt)]; rfl
theorem before_3 (c : Dev nD) (d) : (dats m ρ 0 c).before (3 : Fin 6) tt d = (inputs m).k c := by
  unfold Dat.before; rw [if_pos (fetch_in 3 (by decide) tt)]; rfl
theorem before_4 (c : Dev nD) (d) : (dats m ρ 0 c).before (4 : Fin 6) tt d = (inputs m).v c := by
  unfold Dat.before; rw [if_pos (fetch_in 4 (by decide) tt)]; rfl

theorem copies_start (c : Dev nD) :
    iprop((bigSep Finset.univ fun j : Fin 124 => iprop(atPos ER (sendCell c j) 0 ∅ 0 ∗ atPos ER (recvCell c j) 0 ∅ 0
          ∗ dutyTok ER (sendCell c j) 0 () ∗ dutyTok ER (recvCell (nxt c) j) 0 ()))
        ∗ bigSep Finset.univ fun j : Fin 124 => cred (tallyAt (recvCell c j) () N))
      ⊢ (bigSep Finset.univ (copyStart (F := F) c) : sProp 𝕄) := by
  have h (j : Fin 124) : iprop((atPos ER (sendCell c j) 0 ∅ 0 ∗ atPos ER (recvCell c j) 0 ∅ 0
          ∗ dutyTok ER (sendCell c j) 0 () ∗ dutyTok ER (recvCell (nxt c) j) 0 ()) ∗ cred (tallyAt (recvCell c j) () N))
      ⊢ (copyStart c j : sProp 𝕄) := by
    unfold copyStart
    iintro ⟨⟨H1, H2, H3, H4⟩, H5⟩
    isplitl [H1]; · iexact H1
    isplitl [H2]; · iexact H2
    isplitl [H5]; · iexact H5
    isplitl [H3] <;> iassumption
  rw [← bigSep_sep']
  exact bigSep_mono fun j _ => h j

theorem pre_start (c : Dev nD) : bodyPre m ρ c ⊢ iprop(∃ K, (startSt (inputs m) K c ∗ staged (inputs m) c) ∗ ∃ f, bufPts c cc0_stg5_0 f) := by
  unfold bodyPre Φ₀ start ghost creditsAt scratch startSt staged Dat.owesAt Pipeline.owesWithin
  simp only [before_0, before_1, before_2, before_3, before_4]
  iintro ⟨⟨⟨⟨%K, #Hr, Hb, Ht, Hc⟩, ⟨Hcb, Hcr⟩, #Hl⟩, Hs⟩, HO, ⟨%d0, H0⟩, ⟨%d1, H1⟩, ⟨%d2, H2⟩, ⟨%d3, H3⟩, ⟨%d4, H4⟩, ⟨%d5, H5⟩⟩
  iexists K
  isplitr [H5]
  · isplitr [H0 H1 H2 H3 H4]
    · isplitr; · iexact Hr
      isplitr; · iexact Hl
      isplitl [HO]
      · icases HO with ⟨%W, -, HO⟩; iexists W; iexact HO
      isplitl [Hb]; · iexact Hb
      isplitl [Hcb]; · iexact Hcb
      isplitl [Ht]; · iexact Ht
      isplitl [Hc Hcr]
      · iapply (copies_start (F := F) c); isplitl [Hc] <;> iassumption
      iexact Hs
    · isplitl [H0]; · iapply (stg_bufPts (F := F) c cc0_stg0_0 _); iexact H0
      isplitl [H1]; · iapply (stg_bufPts (F := F) c cc0_stg1_0 _); iexact H1
      isplitl [H2]; · iapply (stg_bufPts (F := F) c cc0_stg2_0 _); iexact H2
      isplitl [H3]; · iapply (stg_bufPts (F := F) c cc0_stg3_0 _); iexact H3
      iapply (stg_bufPts (F := F) c cc0_stg4_0 _); iexact H4
  · iexists _; iapply (stg_bufPts (F := F) c cc0_stg5_0 _); iexact H5

theorem final_post (c : Dev nD) : finalSt (inputs m) c ⊢ bodyPost m ρ c := by
  unfold finalSt bodyPost Φ₁ scratch staged Dat.owesAt Pipeline.owesWithin
  iintro ⟨HO, Hb, Hd, Hs0, Hs1, Hs2, Hs3, ⟨H0, H1, H2, H3, H4⟩, H5⟩
  isplitl [Hb Hd Hs0 Hs1 Hs2 Hs3]
  · isplitl [Hs0 Hs1 Hs2 Hs3]
    · isplitl [Hs0]; · iexact Hs0
      isplitl [Hs1]; · iexact Hs1
      isplitl [Hs2]; · iexact Hs2
      iexact Hs3
    isplitl [Hd]; · iexact Hd
    iexact Hb
  isplitl [HO]
  · icases HO with ⟨%W, HO⟩
    iexists W
    isplitr; · ipureintro; exact fun _ _ => Or.inl trivial
    rw [show (dats m ρ 0 c).owed tt.succ = 0 from rfl]
    iexact HO
  isplitl [H0]; · iapply (bufPts_stg (F := F) c cc0_stg0_0 _); iexact H0
  isplitl [H1]; · iapply (bufPts_stg (F := F) c cc0_stg1_0 _); iexact H1
  isplitl [H2]; · iapply (bufPts_stg (F := F) c cc0_stg2_0 _); iexact H2
  isplitl [H3]; · iapply (bufPts_stg (F := F) c cc0_stg3_0 _); iexact H3
  isplitl [H4]; · iapply (bufPts_stg (F := F) c cc0_stg4_0 _); iexact H4
  iapply (bufPts_stg (F := F) c cc0_stg5_0 _); iexact H5

attribute [local irreducible] cc0_body in
set_option maxRecDepth 10000 in
/-- The library's body obligation on device `c`. -/
theorem body_obligation (c : Dev nD) : BodyObligation (dats (F := F) m ρ 0 c) (defs₀ (F := F)) 𝒱₀ () Set.univ := fun t => by
  rw [show t = tt from fin_N0 t]
  rw [bigSep_W, bigSep_W]
  simp only [owns_whole_eq]
  show bodyPre m ρ c ⊢ stepWp c
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5) (fun _ => bodyPost m ρ c)
  have h (K : Dev nD × CellIx → ℕ) := (body_step (inputs m) K c (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _) (Memref.isWhole_whole _)).trans
      (wp_mono _ _ _ fun _ => final_post m ρ c)
  refine (pre_start m ρ c).trans ?_
  iintro ⟨%K, H⟩
  iapply (h K)
  iexact H

/-! ## The cells -/

/-- The kernel's own semaphores: each copy's send and receive semaphore. -/
def osem (k : Bool × Fin 124) : SemLoc sig := match k with
  | (true, j) => .dma (sendS j)
  | (false, j) => .dma (recvS j)

theorem osem_val : ∀ k : Bool × Fin 124, ∃ s : DmaSem sig, osem k = .dma s ∧ 6 ≤ s.val
  | (true, j) => ⟨sendS j, rfl, by rw [sendS_val]; omega⟩
  | (false, j) => ⟨recvS j, rfl, by rw [recvS_val]; omega⟩

theorem osem_inj : Function.Injective osem := by
  rintro ⟨b, i⟩ ⟨b', j⟩ h
  cases b <;> cases b'
  · exact congrArg (Prod.mk false) (recvS_inj (SemLoc.dma.inj h))
  · exact absurd (SemLoc.dma.inj h).symm (sendS_ne_recvS j i)
  · exact absurd (SemLoc.dma.inj h) (sendS_ne_recvS i j)
  · exact congrArg (Prod.mk true) (sendS_inj (SemLoc.dma.inj h))

theorem stage_val : ∀ (w : Fin cfg0.W) (s : Fin (cfg0.win w).nbuf), ((cfg0.win w).sem s).val < 6 := by decide

theorem dma_scoped : ∀ s : DmaSem sig, (SemLoc.dma s : SemLoc sig).isScoped .tc = true := by decide +kernel
theorem dma_ne_reg (s : DmaSem sig) (t : Sem sig) : (SemLoc.dma s : SemLoc sig) ≠ .reg t := fun h => by cases h

theorem ownSemFacts : Pipeline.OwnSemFacts cfg0.spec osem where
  isScoped k := by obtain ⟨s, h, -⟩ := osem_val k; rw [h]; exact dma_scoped s
  inj := osem_inj
  disj k w s h := by
    obtain ⟨s', h', hv⟩ := osem_val k
    have e : s' = (cfg0.win w).sem s := SemLoc.dma.inj (h'.symm.trans h)
    have := stage_val w s
    rw [e] at hv
    omega

theorem share_eq (c : Dev nD) (w : Fin cfg0.W) : (dats m ρ 0 c).share w = fullShare := by unfold Dat.share; split <;> rfl

theorem cellAt_inj : Function.Injective (cellAt : Dev nD × CellIx → GSem nD τ sig) := by
  rintro ⟨c, k⟩ ⟨c', k'⟩ h
  have h1 : c = c' := by
    have e : ∀ p : Dev nD × CellIx, (cellAt p).1.1 = p.1 := by rintro ⟨c, _ | ⟨_ | _, j⟩⟩ <;> rfl
    have := congrArg (fun g : GSem nD τ sig => g.1.1) h
    simpa only [e] using this
  subst h1
  have h2 : (cellAt (c, k)).2 = (cellAt (c, k')).2 := congrArg Prod.snd h
  have e : ∀ k : Bool × Fin 124, (cellAt (c, some k)).2 = osem k := by rintro ⟨_ | _, j⟩ <;> rfl
  have hn : ∀ k : Bool × Fin 124, osem k ≠ .reg barSem := fun k hk => by
    obtain ⟨s, hs, -⟩ := osem_val k; rw [hs] at hk; exact dma_ne_reg _ _ hk
  rcases k with _ | k <;> rcases k' with _ | k'
  · rfl
  · exact absurd ((e k').symm.trans h2.symm) (hn k')
  · exact absurd ((e k).symm.trans h2) (hn k)
  · rw [e, e] at h2; rw [osem_inj h2]

def ringCells : Finset (GSem nD τ sig) := Finset.univ.map ⟨cellAt, cellAt_inj⟩

def tokOf (p : Dev nD × CellIx) : GSem nD τ sig × ℕ × Unit := (cellAt p, 0, ())
theorem tokOf_inj : Function.Injective tokOf := fun p p' h => cellAt_inj (congrArg Prod.fst h)
def ringToks : Finset (GSem nD τ sig × ℕ × Unit) := Finset.univ.map ⟨tokOf, tokOf_inj⟩

def u₀ : UU := (initOf (Pipeline.cells cfgs cellOf_inj) (Pipeline.launchToks cfgs cellOf_inj), initOf ringCells ringToks)

/-- A device's cells one by one. -/
theorem bigSep_cells (Φ : CellIx → sProp 𝕄) : bigSep Finset.univ Φ
    = iprop(Φ none ∗ (bigSep Finset.univ fun j => Φ (some (true, j))) ∗ bigSep Finset.univ fun j => Φ (some (false, j))) := by
  have hu : (Finset.univ : Finset CellIx).erase none = (Finset.univ : Finset (Bool × Fin 124)).map Function.Embedding.some := by
    ext k; rcases k with _ | k <;> simp
  rw [bigSep_univ_at Φ none, hu, bigSep_map, bigSep_univ_prod, bigSep_univ_eq_bigSepL [true, false] (by decide) (by decide)]
  rfl

/-- What the launch element deals device `c`. -/
def G (c : Dev nD) : sProp 𝕄 :=
  iprop((bigSep Finset.univ fun k : CellIx => roundState ER (Rd (inputs m)) (cellAt (c, k)) 0)
    ∗ (bigSep Finset.univ fun k : CellIx => iprop(atPos ER (cellAt (c, k)) 0 ∅ 0 ∗ reached ER (cellAt (c, k)) 0))
    ∗ bigSep Finset.univ fun k : CellIx => dutyTok ER (cellAt (c, k)) 0 ())

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CellIx => Φ (cellAt (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : CellIx => dutyTok ER (cellAt (c, k)) 0 () := by
    unfold ringToks; rw [bigSep_map, bigSep_univ_prod]; rfl
  iintro HX
  imod (Rounds.fund ER (Rd (inputs m)) ringCells ringToks) $$ HX with ⟨Hst, Hr, Hat, Htok⟩
  imodintro
  ihave Hst' := (Entails.of_eq (hX fun g => roundState ER (Rd (inputs m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0
  rw [bigSep_univ_prod, bigSep_univ_eq_bigSepL [true, false] (by decide) (by decide)]
  rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (cellAt (c, k)) 0 : sProp 𝕄) := by
  rw [ownSems0_eq, unscopedSems0_eq, bigSep_cells]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (inputs m)) κ (cellAt (c, k))))
          ∗ (bigSep Finset.univ fun k => iprop(atPos ER (cellAt (c, k)) 0 ∅ 0 ∗ reached ER (cellAt (c, k)) 0))
          ∗ bigSep Finset.univ fun k => dutyTok ER (cellAt (c, k)) 0 ()) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (cellAt (c, k)) 0) ∗ bigSep Finset.univ fun k : CellIx => roundState ER (Rd (inputs m)) (cellAt (c, k)) 0)
      ⊢ (|={Set.univ}=> bigSep Finset.univ fun k => iprop(∃ κ : ℕ, cellInv ER (Rd (inputs m)) κ (cellAt (c, k))) : sProp 𝕄) from by
        rw [← bigSep_sep']
        exact (bigSep_mono fun k _ => (Rounds.body_intro ER (Rd (inputs m)) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(dutyTok ER (barCell (prv c)) 0 () ∗ (bigSep Finset.univ fun j : Fin 124 => dutyTok ER (sendCell c j) 0 ())
    ∗ bigSep Finset.univ fun j : Fin 124 => dutyTok ER (recvCell (nxt c) j) 0 ())
def posns (c : Dev nD) : sProp 𝕄 := bigSep Finset.univ fun k : CellIx => atPos ER (cellAt (c, k)) 0 ∅ 0

theorem ghost_intro (K : Dev nD × CellIx → ℕ) (c : Dev nD) : iprop(recs (inputs m) K ∗ (posns (F := F) c ∗ payToks c)) ⊢ G' m c := by
  unfold posns payToks G' ghost
  rw [bigSep_cells]
  iintro ⟨#HI, ⟨HaB, HaS, HaV⟩, HtB, HtS, HtV⟩
  iexists K
  isplitr; · iexact HI
  isplitl [HaB]; · iexact HaB
  isplitl [HtB]; · iexact HtB
  simp only [bigSep_sep']
  isplitl [HaS]; · iexact HaS
  isplitl [HaV]; · iexact HaV
  isplitl [HtS]; · iexact HtS
  iexact HtV

/-- The tokens dealt around the ring: a barrier's one device up (to `nxt`), a receive cell's one device down. -/
theorem toks_around : (bigSep Finset.univ fun c : Dev nD => bigSep Finset.univ fun k : CellIx => (dutyTok ER (cellAt (c, k)) 0 () : sProp 𝕄))
    ⊢ bigSep Finset.univ fun c : Dev nD => payToks c := by
  unfold payToks
  rw [bigSep_congr fun (c : Dev nD) _ => bigSep_cells fun k => (dutyTok ER (cellAt (c, k)) 0 () : sProp 𝕄), bigSep_sep', bigSep_sep', bigSep_sep', bigSep_sep',
    bigSep_univ_equiv ring.symm (fun c : Dev nD => (dutyTok ER (cellAt (c, none)) 0 () : sProp 𝕄)),
    bigSep_univ_equiv ring (fun c : Dev nD => (bigSep Finset.univ fun j : Fin 124 => (dutyTok ER (cellAt (c, some (false, j))) 0 () : sProp 𝕄)))]
  iintro ⟨H1, H2, H3⟩
  isplitl [H1]; · iexact H1
  isplitl [H2]; · iexact H2
  iexact H3

theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (inputs m)) κ (cellAt (c, k))))
          ∗ (bigSep Finset.univ fun k => iprop(atPos ER (cellAt (c, k)) 0 ∅ 0 ∗ reached ER (cellAt (c, k)) 0))
          ∗ bigSep Finset.univ fun k => dutyTok ER (cellAt (c, k)) 0 ()) : sProp 𝕄)
      ⊢ bigSep Finset.univ (G' m) := by
  rw [bigSep_sep', bigSep_sep', ← bigSep_univ_prod (fun ck : Dev nD × CellIx => iprop(∃ κ : ℕ, cellInv ER (Rd (inputs m)) κ (cellAt ck))),
    bigSep_congr (s := Finset.univ) (fun (c : Dev nD) _ => bigSep_sep' Finset.univ (fun k : CellIx => (atPos ER (cellAt (c, k)) 0 ∅ 0 : sProp 𝕄)) (fun k => reached ER (cellAt (c, k)) 0)),
    bigSep_sep', ← bigSep_univ_prod (fun ck : Dev nD × CellIx => (reached ER (cellAt ck) 0 : sProp 𝕄))]
  iintro ⟨HI, ⟨Hat, #HR⟩, Htok⟩
  ihave HK := (BI.bigSep_exists_pi Finset.univ (fun (ck : Dev nD × CellIx) (κ : ℕ) => (cellInv ER (Rd (inputs m)) κ (cellAt ck) : sProp 𝕄))) $$ HI
  icases HK with ⟨%K, #HI⟩
  ihave Htk := (toks_around (F := F)) $$ Htok
  iapply (bigSep_with_persistent (R := recs (inputs m) K) fun c _ => ghost_intro m K c)
  isplitr
  · unfold recs; isplitl; · iexact HI
    iexact HR
  · rw [bigSep_sep']
    unfold posns
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owed_bar (d c : Dev nD) : owedStart d (barCell c) () = if d = nxt c then 1 else 0 := by
  unfold owedStart
  rw [Pi.add_apply, Finsupp.add_apply]
  have h0 : owedAt d 0 (barCell c) () = 0 := by
    by_contra h
    obtain ⟨j, -, hj⟩ := owedAt_pos (Nat.pos_of_ne_zero h)
    exact dma_ne_reg _ _ (congrArg (fun g : GSem nD τ sig => g.2) hj).symm
  rw [h0, Nat.zero_add, tallyAt_apply]
  by_cases h : d = nxt c
  · subst h; rw [prv_nxt, if_pos ⟨rfl, rfl⟩, if_pos rfl]
  · rw [if_neg (fun ⟨h1, _⟩ => h (by
      have : c = prv d := congrArg (fun g : GSem nD τ sig => g.1.1) h1
      rw [this, nxt_prv])), if_neg h]

theorem owed_recv (d c : Dev nD) (j : Fin 124) : owedStart d (recvCell c j) () = if d = prv c then N else 0 := by
  unfold owedStart owedAt
  rw [Pi.add_apply, Finsupp.add_apply, tallyAt_ne_cell (fun h => dma_ne_reg _ _ (congrArg (fun g : GSem nD τ sig => g.2) h)), Finsupp.zero_apply, Nat.add_zero,
    Finset.sum_apply, Finsupp.finset_sum_apply]
  have hu : unsent 0 = Finset.univ := Finset.filter_true_of_mem fun _ _ => Nat.zero_le _
  rw [hu]
  by_cases h : d = prv c
  · subst h
    rw [if_pos rfl, Finset.sum_eq_single j]
    · rw [tallyAt_apply, nxt_prv, if_pos ⟨rfl, rfl⟩]
    · intro i _ hi
      rw [tallyAt_apply, if_neg]
      rintro ⟨h1, _⟩
      exact hi (recvS_inj (SemLoc.dma.inj (congrArg Prod.snd h1))).symm
    · intro hj; exact absurd (Finset.mem_univ j) hj
  · rw [if_neg h]
    refine Finset.sum_eq_zero fun i _ => ?_
    rw [tallyAt_apply, if_neg]
    rintro ⟨h1, _⟩
    have : c = nxt d := congrArg (fun g : GSem nD τ sig => g.1.1) h1
    exact h (by rw [this, prv_nxt])

theorem launch_bar (c : Dev nD) :
    tallyOn (barCell c) (launchCredit (Pipeline.owing owedStart) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nxt c) fun _ => 1, if_pos (Finset.mem_univ _)]

theorem launch_recv (c : Dev nD) (j : Fin 124) :
    tallyOn (recvCell c j) (launchCredit (Pipeline.owing owedStart) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (prv c) fun _ => N,
    if_pos (Finset.mem_univ _)]

theorem creds (c : Dev nD) : (Pipeline.launchCred owedStart c : sProp 𝕄) ⊢ creditsAt c := by
  unfold Pipeline.launchCred creditsAt
  rw [bigSep_univ_at _ (SemLoc.reg barSem), launch_bar]
  refine sep_mono_right ?_
  let e : Fin 124 ↪ SemLoc sig := ⟨fun j => .dma (recvS j), fun i j h => recvS_inj (SemLoc.dma.inj h)⟩
  have hs : (Finset.univ.map e) ⊆ (Finset.univ : Finset (SemLoc sig)).erase (SemLoc.reg barSem) := fun s hs => by
    obtain ⟨j, -, rfl⟩ := Finset.mem_map.mp hs
    exact Finset.mem_erase.mpr ⟨dma_ne_reg _ _, Finset.mem_univ _⟩
  refine BI.Entails.trans (bigSep_subset hs) ?_
  rw [bigSep_map]
  exact bigSep_mono fun j _ => Entails.of_eq (congrArg cred (launch_recv c j))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred owedStart c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem scratch_eq (c : Dev nD) : (Pipeline.scopedRest cfg0.spec c : sProp 𝕄) = scratch c := by
  rw [show (Pipeline.scopedRest cfg0.spec c : sProp 𝕄) = Pipeline.scopedRest spec0 c from rfl, scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq, ← bigSep_sep']
  unfold Φ₁
  iintro ⟨Hr, Hd, HzB⟩
  isplitl [HzB]; · iexact HzB
  isplitl [Hd]; · iexact Hd
  iexact Hr

theorem stage_waits (c : Dev nD) : (levAts L lv : sProp 𝕄) ⊢ Pipeline.cellsWaits cfgs (dats m ρ) () 0 c :=
  Pipeline.cellsWaits_intro cfgs (dats m ρ) () 0 c fun w s t => by
    have hl : level (role (.dma ((cfg0.win w).sem s))) = 0 := by rw [role_staging _ (stage_val w s)]; rfl
    rcases t with ⟨_ | _, ht⟩
    · exact mayWait_start c _ hl
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body in
set_option maxRecDepth 20000 in
/-- For any float values, from any memory with zero counters: every weakly fair execution ends, each device's arrays
    at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owedStart) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_in (c : Dev nD) (w : Fin cfg0.W) (h : (cfg0.win w).isOut = false) :
    finalA m ρ c w = (s₀ m ρ).mem ((cfg0.win w).arr.view.loc (c : Thread nD τ)) := (dats (F := F) m ρ 0 c).arrAt_in w h _

end Cert.KernelIdeal.Ring

end
-- ==== Proof.Same.lean ====
/-
# The two printed kernels are one program
-/
module

public import proofs.«01_k».proof.Proof.Segments
public import proofs.«01_k».proof.Proof.Gen.Kernel

@[expose] public section
noncomputable section
namespace Cert.KernelIdeal.Ring
open Idealize.ShloMosaic Idealize.SL.Sem
open Cert.KernelIdeal.Gen
variable {F : FTy → Type} [FloatOps F]
variable (arg0 : Memref sig .tc .vmem S2x128x512 .bf16) (harg0 : arg0.IsWhole) (arg1 : Memref sig .tc .vmem S512x512 .bf16) (harg1 : arg1.IsWhole)
  (arg2 : Memref sig .tc .vmem S512x512 .bf16) (harg2 : arg2.IsWhole) (arg3 : Memref sig .tc .vmem S2x128x8x64 .bf16) (harg3 : arg3.IsWhole)
  (arg4 : Memref sig .tc .vmem S2x128x8x64 .bf16) (harg4 : arg4.IsWhole) (arg5 : Memref sig .tc .vmem S2x128x512 .f32) (harg5 : arg5.IsWhole)
  (arg6 : Memref sig .tc .vmem S32x4x128x512 .bf16) (harg6 : arg6.IsWhole) (arg7 : Memref sig .tc .vmem S2x128x512 .bf16) (harg7 : arg7.IsWhole)
  (arg8 : Memref sig .tc .vmem S16x128x64 .f32) (harg8 : arg8.IsWhole) (arg9 : Memref sig .tc .vmem S16x128x1 .f32) (harg9 : arg9.IsWhole)
  (arg10 arg11 : DmaSems sig S4x31)

/-- The kernel's body is the same chain of the steps. -/
theorem kernel_body_eq :
    Cert.Kernel.cc0_body (F := F) arg0 harg0 arg1 harg1 arg2 harg2 arg3 harg3 arg4 harg4 arg5 harg5 arg6 harg6 arg7 harg7 arg8 harg8 arg9 harg9 arg10 arg11
      = (do
          let d0 ← Prog.lift .deviceId
          prologue arg0 arg1 arg3 arg4 arg6 harg6 arg7 harg7 arg8 arg9 d0
          run (item arg6 harg6 arg7 arg8 arg9 arg10 arg11 d0) 0 768
          epilogue arg2 arg5 arg8 arg9) := by
  chain_rfl

/-- The two bodies are the same. -/
theorem bodies_eq : Cert.Kernel.cc0_body (F := F) arg0 harg0 arg1 harg1 arg2 harg2 arg3 harg3 arg4 harg4 arg5 harg5 arg6 harg6 arg7 harg7 arg8 harg8 arg9 harg9 arg10 arg11
    = cc0_body (F := F) arg0 harg0 arg1 harg1 arg2 harg2 arg3 harg3 arg4 harg4 arg5 harg5 arg6 harg6 arg7 harg7 arg8 harg8 arg9 harg9 arg10 arg11 :=
  (kernel_body_eq ..).trans (body_eq ..).symm

attribute [local irreducible] Cert.Kernel.cc0_body Cert.KernelIdeal.cc0_body

theorem body_tables_eq : Cert.Kernel.defs₀ (F := F) = Cert.KernelIdeal.defs₀ (F := F) := by
  unfold Cert.Kernel.defs₀ Cert.KernelIdeal.defs₀
  refine congrArg (Defs.onTc (nD := nD) (τ := τ) (sig := sig) (Λ := Λ₀)) (funext fun a => funext fun s => ?_)
  match a, s with
  | 0, (t, s) => exact bodies_eq ..
  | ⟨_ + 1, h⟩, _ => exact absurd h (Nat.not_lt.2 (Nat.le_add_left _ _))

/-- The two body tables are the same. -/
theorem defs_eq : Cert.Kernel.defs (F := F) = Cert.KernelIdeal.defs (F := F) :=
  congrArg (Idealize.ShloMosaic.Pipeline.defs (Cert.KernelIdeal.pcfgs (F := F))) body_tables_eq

theorem main_eq : (Cert.Kernel.main (F := F)) = Cert.KernelIdeal.main (F := F) := rfl

end Cert.KernelIdeal.Ring
end
-- ==== Proof.Frames.lean ====
/-
# What the arrays hold after the run, and the frames

The kernel's argument arrays are unchanged, its result array holds `outAt` of the arguments; the reference's arguments
are unchanged.
-/
module

public import proofs.«01_k».proof.Defs
public import proofs.«01_k».proof.Proof.Run
public import proofs.«01_k».proof.Proof.Same
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.KernelIdeal.Ring

open Cert.KernelIdeal Cert.KernelIdeal.Gen
open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The windows are the whole arrays -/

theorem read_x_array (f : Vec F S2x128x512 .bf16) : (win0_0.blk (0 : Fin 1)).view.read (Elt F) f = f :=
  Memref.read_access_unit_zero (Elt F) main_arg0 (funext fun a => by fin_cases a <;> decide) _ f
theorem read_wq_array (f : Vec F S512x512 .bf16) : (win0_1.blk (0 : Fin 1)).view.read (Elt F) f = f :=
  Memref.read_access_unit_zero (Elt F) main_arg1 (funext fun a => by fin_cases a <;> decide) _ f
theorem read_wo_array (f : Vec F S512x512 .bf16) : (win0_2.blk (0 : Fin 1)).view.read (Elt F) f = f :=
  Memref.read_access_unit_zero (Elt F) main_arg4 (funext fun a => by fin_cases a <;> decide) _ f
theorem read_k_array (f : Vec F S2x128x8x64 .bf16) : (win0_3.blk (0 : Fin 1)).view.read (Elt F) f = f :=
  Memref.read_access_unit_zero (Elt F) main_arg2 (funext fun a => by fin_cases a <;> decide) _ f
theorem read_v_array (f : Vec F S2x128x8x64 .bf16) : (win0_4.blk (0 : Fin 1)).view.read (Elt F) f = f :=
  Memref.read_access_unit_zero (Elt F) main_arg3 (funext fun a => by fin_cases a <;> decide) _ f
theorem read_out_array (f : Vec F S2x128x512 .f32) : (win0_5.blk (0 : Fin 1)).view.read (Elt F) f = f :=
  Memref.read_access_unit_zero (Elt F) main_v1 (funext fun a => by fin_cases a <;> decide) _ f

/-- The devices' arguments are their arrays. -/
theorem inputs_eq : inputs m = ⟨fun c => m ((c : Thread nD τ).loc main_arg0), fun c => m ((c : Thread nD τ).loc main_arg1),
    fun c => m ((c : Thread nD τ).loc main_arg4), fun c => m ((c : Thread nD τ).loc main_arg2), fun c => m ((c : Thread nD τ).loc main_arg3)⟩ := by
  unfold inputs
  congr 1 <;> funext c
  · exact read_x_array _
  · exact read_wq_array _
  · exact read_wo_array _
  · exact read_k_array _
  · exact read_v_array _

/-- The result array after the run. -/
theorem finalA_out (c : Dev nD) : finalA m ρ c (5 : Fin 6) = outAt (inputs m) c := by
  have h : (win0_5.blk (0 : Fin 1)).view.read (Elt F) (finalA m ρ c (5 : Fin 6)) = outAt (inputs m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (read_out_array _).symm.trans h

/-- After the run: the arguments as they were, the result computed, the counters zero. -/
theorem run_arrays : θ_run defs (onTc (τ := τ) (main (F := F))) ⟨m, fun _ => 0, ρ⟩ (fun r =>
    (∀ c : Dev nD, r.2.mem ((c : Thread nD τ).loc main_v1) = outAt (inputs m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun _ h => ⟨fun c =>
    ⟨(h.1 c (5 : Fin 6)).trans (finalA_out m ρ c), (h.1 c (0 : Fin 6)).trans (finalA_in m ρ c (0 : Fin 6) rfl),
      (h.1 c (1 : Fin 6)).trans (finalA_in m ρ c (1 : Fin 6) rfl), (h.1 c (3 : Fin 6)).trans (finalA_in m ρ c (3 : Fin 6) rfl),
      (h.1 c (4 : Fin 6)).trans (finalA_in m ρ c (4 : Fin 6) rfl), (h.1 c (2 : Fin 6)).trans (finalA_in m ρ c (2 : Fin 6) rfl)⟩, h.2⟩) (run_main m ρ)

end Cert.KernelIdeal.Ring

namespace Cert.Frames

open Idealize.ShloMosaic Idealize.SL.Sem

/-- The idealized kernel's frame. -/
theorem frame_pi : Cert.quiescent_KernelIdeal := fun m ρ _ =>
  (θ_run Cert.KernelIdeal.defs _ _).mono (fun _ h => ⟨fun c => (h.1 c).2, h.2⟩) (Cert.KernelIdeal.Ring.run_arrays (F := Ideal) m ρ)

/-- The kernel's frame: the same program, at bits. -/
theorem frame_p : Cert.quiescent_Kernel := fun m ρ _ => by
  rw [Cert.KernelIdeal.Ring.defs_eq]
  exact (θ_run Cert.KernelIdeal.defs _ _).mono (fun _ h => ⟨fun c => (h.1 c).2, h.2⟩) (Cert.KernelIdeal.Ring.run_arrays (F := Bits) m ρ)

/-- The reference's frame. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Frames

end
-- ==== Proof.KernelValue.lean ====
/-
# The kernel's steps at an index

Over the extended reals: the queries, one head's weights on one chunk, and what the sums and accumulators gain from it.
-/
module

public import proofs.«01_k».proof.Proof.State
public import Idealize.ShloMosaic.Lib.Pointwise

@[expose] public section

noncomputable section

namespace Cert.KernelIdeal.Ring

open Cert.KernelIdeal.Gen
open Idealize.ShloMosaic
open Idealize.ShloMosaic.TcCoe
open Idealize.SL.Sem

/-- Column `e` of head `d`. -/
def col (d : Fin 8) (e : Fin 64) : Fin 512 := ⟨64 * d.val + e.val, by omega⟩

/-! ## The steps' values -/

theorem queryVal_apply (x : Vec Ideal S1x128x512 .bf16) (w : Vec Ideal S512x512 .bf16) (i : Fin 128) (n : Fin 512) :
    queryVal x w (ix3 0 i n) = ∑ k : Fin 512, x (ix3 0 i k) * w (ix2 k n) := by
  pointwise [queryVal]

theorem zeroSums_apply (t : Fin 16) (i : Fin 128) : zeroSums (F := Ideal) (ix3 t i 0) = 0 := by
  pointwise [zeroSums]

theorem zeroAccs_apply (t : Fin 16) (i : Fin 128) (e : Fin 64) : zeroAccs (F := Ideal) (ix3 t i e) = 0 := by
  pointwise [zeroAccs]

theorem zeroOut_apply (i : Fin 128) (n : Fin 512) : zeroOut (F := Ideal) (ix2 i n) = 0 := by
  pointwise [zeroOut]

theorem chunkVal_apply (k : Vec Ideal S2x128x8x64 .bf16) (b : Fin 2) (j : Fin 128) (d : Fin 8) (e : Fin 64) :
    chunkVal k (ix4 0 b j (col d e)) = k (ix4 b j d e) := by
  pointwise [chunkVal, col]

theorem weights_apply (q : Vec Ideal S1x128x64 .bf16) (k : Vec Ideal S1x1x128x64 .bf16) (i j : Fin 128) :
    weights q k (ix2 i j)
      = Ideal.exp ((∑ e : Fin 64, q (ix3 0 i e) * k (ix4 0 0 j e)) * Ideal.ofBits .f32 0x3E000000#32 - Ideal.ofBits .f32 0x41800000#32) := by
  pointwise [weights]

theorem sumVal_apply (p : FVec Ideal S128x128 .f32) (l : Vec Ideal S1x128x1 .f32) (i : Fin 128) :
    sumVal p l (ix3 0 i 0) = l (ix3 0 i 0) + ∑ j : Fin 128, p (ix2 i j) := by
  pointwise [sumVal]

theorem accVal_apply (p : FVec Ideal S128x128 .f32) (v : Vec Ideal S1x1x128x64 .bf16) (a : Vec Ideal S1x128x64 .f32) (i : Fin 128) (e : Fin 64) :
    accVal p v a (ix3 0 i e) = a (ix3 0 i e) + ∑ j : Fin 128, p (ix2 i j) * v (ix4 0 0 j e) := by
  pointwise [accVal]

theorem projVal_apply (a : Vec Ideal S1x128x64 .f32) (l : Vec Ideal S1x128x1 .f32) (w : Vec Ideal S64x512 .bf16) (o : FVec Ideal S128x512 .f32)
    (i : Fin 128) (n : Fin 512) :
    projVal a l w o (ix2 i n) = o (ix2 i n) + ∑ e : Fin 64, Ideal.div (a (ix3 0 i e)) (l (ix3 0 i 0)) * w (ix2 e n) := by
  pointwise [projVal]

/-! ## What the buffers hold -/

variable (I : Inputs Ideal) (c : Dev nD)

/-- A query entry: a row of the inputs times a column of the projection. -/
def qv (b : Fin 2) (i : Fin 128) (n : Fin 512) : EReal := ∑ k : Fin 512, I.x c (ix3 b i k) * I.wq c (ix2 k n)

theorem qAll_apply (b : Fin 2) (i : Fin 128) (n : Fin 512) : qAll I c (ix3 b i n) = qv I c b i n := by
  have h : qAll I c (ix3 b i n) = queryRow I c b (ix3 0 i n) := by
    unfold qAll rows
    refine congrArg (queryRow I c b) (funext fun a => ?_)
    fin_cases a <;> rfl
  rw [h]
  unfold queryRow
  rw [queryVal_apply]
  refine Finset.sum_congr rfl fun k _ => congrArg₂ (· * ·) (congrArg (I.x c) ?_) (congrArg (I.wq c) ?_)
  · funext a; fin_cases a <;> apply Fin.ext
    · show b.val + 1 * 0 = b.val; omega
    · show 0 + 1 * i.val = i.val; omega
    · show 0 + 1 * k.val = k.val; omega
  · funext a; fin_cases a <;> apply Fin.ext
    · show 0 + 1 * k.val = k.val; omega
    · show 0 + 1 * n.val = n.val; omega

/-- The keys of the device `h` places to the left, in slot `h`. -/
theorem kvAll_key (h : Fin 32) (b : Fin 2) (j : Fin 128) (d : Fin 8) (e : Fin 64) :
    kvAll I c (ix4 h (b.castLE (by decide)) j (col d e)) = I.k (origin c h.val) (ix4 b j d e) := by
  have hb := b.isLt
  rw [← chunkVal_apply (I.k (origin c h.val)) b j d e]
  unfold kvAll
  refine (if_pos (show b.val < 2 from hb)).trans ?_
  refine congrArg (chunkVal (I.k (origin c h.val))) (funext fun a => ?_)
  fin_cases a <;> apply Fin.ext
  · rfl
  · exact Nat.mod_eq_of_lt hb
  · rfl
  · rfl

/-- The values of the device `h` places to the left, in slot `h`. -/
theorem kvAll_value (h : Fin 32) (b : Fin 2) (j : Fin 128) (d : Fin 8) (e : Fin 64) :
    kvAll I c (ix4 h (b.natAdd 2) j (col d e)) = I.v (origin c h.val) (ix4 b j d e) := by
  have hb := b.isLt
  rw [← chunkVal_apply (I.v (origin c h.val)) b j d e]
  unfold kvAll
  refine (if_neg (show ¬ (2 + b.val < 2) by omega)).trans ?_
  refine congrArg (chunkVal (I.v (origin c h.val))) (funext fun a => ?_)
  fin_cases a <;> apply Fin.ext
  · rfl
  · show (2 + b.val) % 2 = b.val; omega
  · rfl
  · rfl

/-- A query's score against a key of the device `h` places to the left. -/
def sv (h : Fin 32) (b : Fin 2) (d : Fin 8) (i j : Fin 128) : EReal :=
  (∑ e : Fin 64, qv I c b i (col d e) * I.k (origin c h.val) (ix4 b j d e)) * Ideal.ofBits .f32 0x3E000000#32
/-- Its weight. -/
def wv (h : Fin 32) (b : Fin 2) (d : Fin 8) (i j : Fin 128) : EReal :=
  Ideal.exp (sv I c h b d i j - Ideal.ofBits .f32 0x41800000#32)

theorem stepWeights_apply (h : Fin 32) (b : Fin 2) (d : Fin 8) (i j : Fin 128) :
    stepWeights I c h b d (ix2 i j) = wv I c h b d i j := by
  unfold stepWeights wv sv
  rw [weights_apply]
  refine congrArg (fun s => Ideal.exp (s * Ideal.ofBits .f32 0x3E000000#32 - Ideal.ofBits .f32 0x41800000#32)) ?_
  refine Finset.sum_congr rfl fun e _ => congrArg₂ (· * ·) ?_ ?_
  · rw [← qAll_apply]
    refine congrArg (qAll I c) (funext fun a => ?_)
    fin_cases a <;> apply Fin.ext
    · show b.val + 1 * 0 = b.val; omega
    · show 0 + 1 * i.val = i.val; omega
    · show 64 * d.val + 1 * e.val = 64 * d.val + e.val; omega
  · rw [← kvAll_key]
    refine congrArg (kvAll I c) (funext fun a => ?_)
    fin_cases a <;> apply Fin.ext
    · show h.val + 1 * 0 = h.val; omega
    · show b.val + 1 * 0 = b.val; omega
    · show 0 + 1 * j.val = j.val; omega
    · show 64 * d.val + 1 * e.val = 64 * d.val + e.val; omega

/-! ## The sums and accumulators after the steps -/

theorem sum_emb (t : Fin 16) (i : Fin 128) : (rSum t).emb (ix3 0 i 0) = ix3 t i 0 := by
  funext a; fin_cases a <;> apply Fin.ext
  · show t.val + 1 * 0 = t.val; omega
  · show 0 + 1 * i.val = i.val; omega
  · rfl

theorem acc_emb (t : Fin 16) (i : Fin 128) (e : Fin 64) : (rAcc t).emb (ix3 0 i e) = ix3 t i e := by
  funext a; fin_cases a <;> apply Fin.ext
  · show t.val + 1 * 0 = t.val; omega
  · show 0 + 1 * i.val = i.val; omega
  · show 0 + 1 * e.val = e.val; omega

/-- One step adds to its own head's sums only. -/
theorem sumStep_apply (h : Fin 32) (b : Fin 2) (d : Fin 8) (l : Vec Ideal S16x128x1 .f32) (t : Fin 16) (i : Fin 128) :
    sumStep I c h b d l (ix3 t i 0) = l (ix3 t i 0) + if headIdx b d = t then ∑ j : Fin 128, wv I c h b d i j else 0 := by
  unfold sumStep
  by_cases ht : headIdx b d = t
  · subst ht
    rw [if_pos rfl]
    have e := View.write_emb_of_mem (Val := Elt Ideal) (v := sumM.access (rSum (headIdx b d))) l
      (sumVal (stepWeights I c h b d) (sumM.view.readAt (Elt Ideal) (rSum (headIdx b d)).toLoadRect l)) (Finset.mem_univ (ix3 0 i 0))
    have hx : (sumM.access (rSum (headIdx b d))).emb (ix3 0 i 0) = ix3 (headIdx b d) i 0 := sum_emb _ i
    rw [hx] at e
    refine e.trans ?_
    rw [sumVal_apply]
    refine congrArg₂ (· + ·) (congrArg l (sum_emb _ i)) (Finset.sum_congr rfl fun j _ => stepWeights_apply I c h b d i j)
  · rw [if_neg ht, add_zero]
    refine View.write_of_not_mem (Val := Elt Ideal) (v := sumM.access (rSum (headIdx b d))) _ _ _ ?_
    rw [View.setOn_univ]
    show ix3 t i 0 ∉ ((View.whole cc0_scratch3).slice (rSum (headIdx b d))).set
    rw [View.set_slice_whole, Rect.mem_set_unit]
    intro hm
    have h0 : (headIdx b d).val ≤ t.val ∧ t.val < (headIdx b d).val + 1 := hm 0
    exact ht (Fin.ext (by omega))

/-- One step adds to its own head's accumulators only. -/
theorem accStep_apply (h : Fin 32) (b : Fin 2) (d : Fin 8) (l : Vec Ideal S16x128x64 .f32) (t : Fin 16) (i : Fin 128) (e : Fin 64) :
    accStep I c h b d l (ix3 t i e) = l (ix3 t i e)
      + if headIdx b d = t then ∑ j : Fin 128, wv I c h b d i j * I.v (origin c h.val) (ix4 b j d e) else 0 := by
  unfold accStep
  by_cases ht : headIdx b d = t
  · subst ht
    rw [if_pos rfl]
    have e' := View.write_emb_of_mem (Val := Elt Ideal) (v := accM.access (rAcc (headIdx b d))) l
      (accVal (stepWeights I c h b d) (kvM.view.readAt (Elt Ideal) (rHead h (b.natAdd 2) d).toLoadRect (kvAll I c))
        (accM.view.readAt (Elt Ideal) (rAcc (headIdx b d)).toLoadRect l)) (Finset.mem_univ (ix3 0 i e))
    have hx : (accM.access (rAcc (headIdx b d))).emb (ix3 0 i e) = ix3 (headIdx b d) i e := acc_emb _ i e
    rw [hx] at e'
    refine e'.trans ?_
    rw [accVal_apply]
    refine congrArg₂ (· + ·) (congrArg l (acc_emb _ i e)) (Finset.sum_congr rfl fun j _ =>
      congrArg₂ (· * ·) (stepWeights_apply I c h b d i j) ?_)
    rw [← kvAll_value]
    refine congrArg (kvAll I c) (funext fun a => ?_)
    fin_cases a <;> apply Fin.ext
    · show h.val + 1 * 0 = h.val; omega
    · show (2 + b.val) + 1 * 0 = 2 + b.val; omega
    · show 0 + 1 * j.val = j.val; omega
    · show 64 * d.val + 1 * e.val = 64 * d.val + e.val; omega
  · rw [if_neg ht, add_zero]
    refine View.write_of_not_mem (Val := Elt Ideal) (v := accM.access (rAcc (headIdx b d))) _ _ _ ?_
    rw [View.setOn_univ]
    show ix3 t i e ∉ ((View.whole cc0_scratch2).slice (rAcc (headIdx b d))).set
    rw [View.set_slice_whole, Rect.mem_set_unit]
    intro hm
    have h0 : (headIdx b d).val ≤ t.val ∧ t.val < (headIdx b d).val + 1 := hm 0
    exact ht (Fin.ext (by omega))

/-- An entry that starts at zero and gains `g h` in the step of slot `h` and its own head, and nothing in the other heads'
    steps, ends as the sum of the `g h` over the slots. -/
theorem gained (f : ℕ → EReal) (g : Fin 32 → EReal) (t : Fin 16) (h0 : f 0 = 0)
    (hs : ∀ a, f (a + 1) = f a + if headIdx (rowNo a) (headNo a) = t then g (slotNo a) else 0) : f 512 = ∑ h : Fin 32, g h := by
  have hsum : ∀ n, f n = ∑ a ∈ Finset.range n, if headIdx (rowNo a) (headNo a) = t then g (slotNo a) else 0 := fun n => by
    induction n with
    | zero => simpa using h0
    | succ n ih => rw [hs, ih, Finset.sum_range_succ]
  rw [hsum, Finset.sum_range, Fin.sum_univ_tiles 32 16 rfl]
  refine Finset.sum_congr rfl fun h _ => ?_
  have hone : ∀ u : Fin 16, headIdx (rowNo (h.val * 16 + u.val)) (headNo (h.val * 16 + u.val)) = u := fun u => by
    have := u.isLt
    apply Fin.ext
    show 8 * ((h.val * 16 + u.val) % 16 / 8 % 2) + (h.val * 16 + u.val) % 8 % 8 = u.val
    omega
  have hslot : ∀ u : Fin 16, slotNo (h.val * 16 + u.val) = h := fun u => by
    have := u.isLt; have := h.isLt
    apply Fin.ext
    show (h.val * 16 + u.val) / 16 % 32 = h.val
    omega
  simp only [hone, hslot]
  rw [Finset.sum_ite_eq' Finset.univ t fun _ => g h, if_pos (Finset.mem_univ _)]

theorem head_of (b : Fin 2) (d : Fin 8) (b' : Fin 2) (d' : Fin 8) (h : headIdx b' d' = headIdx b d) : b' = b ∧ d' = d := by
  have e : 8 * b'.val + d'.val = 8 * b.val + d.val := congrArg Fin.val h
  have := d.isLt; have := d'.isLt
  exact ⟨Fin.ext (by omega), Fin.ext (by omega)⟩

/-- The finished sums. -/
theorem sums_apply (b : Fin 2) (d : Fin 8) (i : Fin 128) :
    sums I c 512 (ix3 (headIdx b d) i 0) = ∑ h : Fin 32, ∑ j : Fin 128, wv I c h b d i j := by
  refine gained (fun n => sums I c n (ix3 (headIdx b d) i 0)) (fun h => ∑ j : Fin 128, wv I c h b d i j) (headIdx b d)
    (zeroSums_apply _ i) fun a => ?_
  refine (sumStep_apply I c _ _ _ _ _ i).trans (congrArg (sums I c a (ix3 (headIdx b d) i 0) + ·) ?_)
  split
  · next h => obtain ⟨hb, hd⟩ := head_of _ _ _ _ h; rw [hb, hd]
  · rfl

/-- The finished accumulators. -/
theorem accs_apply (b : Fin 2) (d : Fin 8) (i : Fin 128) (e : Fin 64) :
    accs I c 512 (ix3 (headIdx b d) i e) = ∑ h : Fin 32, ∑ j : Fin 128, wv I c h b d i j * I.v (origin c h.val) (ix4 b j d e) := by
  refine gained (fun n => accs I c n (ix3 (headIdx b d) i e))
    (fun h => ∑ j : Fin 128, wv I c h b d i j * I.v (origin c h.val) (ix4 b j d e)) (headIdx b d)
    (zeroAccs_apply _ i e) fun a => ?_
  refine (accStep_apply I c _ _ _ _ _ i e).trans (congrArg (accs I c a (ix3 (headIdx b d) i e) + ·) ?_)
  split
  · next h => obtain ⟨hb, hd⟩ := head_of _ _ _ _ h; rw [hb, hd]
  · rfl

/-! ## The result -/

/-- One entry of one head's attention: the weighted values over the sum of the weights. -/
def ov (b : Fin 2) (d : Fin 8) (i : Fin 128) (e : Fin 64) : EReal :=
  Ideal.div (∑ h : Fin 32, ∑ j : Fin 128, wv I c h b d i j * I.v (origin c h.val) (ix4 b j d e))
    (∑ h : Fin 32, ∑ j : Fin 128, wv I c h b d i j)

theorem projStep_apply (b : Fin 2) (d : Fin 8) (o : FVec Ideal S128x512 .f32) (i : Fin 128) (n : Fin 512) :
    projStep I c b d o (ix2 i n) = o (ix2 i n) + ∑ e : Fin 64, ov I c b d i e * I.wo c (ix2 (col d e) n) := by
  unfold projStep
  rw [projVal_apply]
  refine congrArg (o (ix2 i n) + ·) (Finset.sum_congr rfl fun e _ => congrArg₂ (· * ·) ?_ (congrArg (I.wo c) ?_))
  · unfold ov
    rw [← accs_apply, ← sums_apply]
    exact congrArg₂ Ideal.div (congrArg (accs I c 512) (acc_emb _ i e)) (congrArg (sums I c 512) (sum_emb _ i))
  · funext a; fin_cases a <;> apply Fin.ext
    · show 64 * d.val + 1 * e.val = 64 * d.val + e.val; omega
    · show 0 + 1 * n.val = n.val; omega

/-- The kernel's result on device `c`, entry by entry. -/
theorem outAt_apply (b : Fin 2) (i : Fin 128) (n : Fin 512) :
    outAt I c (ix3 b i n) = ∑ d : Fin 8, ∑ e : Fin 64, ov I c b d i e * I.wo c (ix2 (col d e) n) := by
  have h : outAt I c (ix3 b i n) = projAll I c b 0 8 zeroOut (ix2 i n) := by
    have h1 : outAt I c (ix3 b i n)
        = shapeCast S1x128x512 (projAll I c b 0 8 zeroOut) shapeCasts_S128x512_S1x128x512 (ix3 0 i n) := by
      unfold outAt rows
      refine congrArg (shapeCast S1x128x512 (projAll I c b 0 8 zeroOut) shapeCasts_S128x512_S1x128x512) (funext fun a => ?_)
      fin_cases a <;> rfl
    rw [h1]
    generalize projAll I c b 0 8 zeroOut = p
    pointwise
  rw [h]
  simp only [projAll, projStep_apply, zeroOut_apply, zero_add, Fin.sum_univ_eight]
  rfl

end Cert.KernelIdeal.Ring

end
-- ==== Proof.ReferenceValue.lean ====
/-
# The reference at an index

Over the extended reals: the reference's composed term, entry by entry.
-/
module

public import proofs.«01_k».proof.Proof.Gen.ReferenceIdeal.Run
public import Idealize.ShloMosaic.Lib.Pointwise

@[expose] public section

noncomputable section

namespace Cert.ReferenceIdeal.Whole

open Cert.ReferenceIdeal Cert.ReferenceIdeal.Gen
open Idealize.ShloMosaic
open Idealize.ShloMosaic.TcCoe
open Idealize.SL.Sem

variable (x : FVec Ideal S2x4096x512 .bf16) (wq : FVec Ideal S512x512 .bf16) (k v : FVec Ideal S2x4096x8x64 .bf16) (wo : FVec Ideal S512x512 .bf16)

/-- Column `e` of head `d`. -/
def col (d : Fin 8) (e : Fin 64) : Fin 512 := ⟨d.val * 64 + e.val, by omega⟩

/-- The scaled scores. -/
def scores : FVec Ideal S2x8x4096x4096 .f32 :=
  mulf (Host.dotGeneral dot_S2x4096x8x64_S2x4096x8x64_S2x8x4096x4096_3_3_1_1_02_02 none
    (shapeCast _ (Host.dotGeneral dot_S2x4096x512_S512x512_S2x4096x512_2_0_01_1_n_n none (extf .f32 x bitsLt_bf16_f32) (extf .f32 wq bitsLt_bf16_f32)) shapeCasts_S2x4096x512_S2x4096x8x64)
    (extf .f32 k bitsLt_bf16_f32)) (broadcastInDim S2x8x4096x4096 ![] bcast_S_S2x8x4096x4096 (constant S_ .f32 0x3E000000#32))

/-- The weights: exponentials of the scores less their row's maximum. -/
def wts (s : FVec Ideal S2x8x4096x4096 .f32) : FVec Ideal S2x8x4096x4096 .f32 :=
  Host.exp (subf s (broadcastInDim S2x8x4096x4096 ![0, 1, 2, 3] bcast_S2x8x4096x1_S2x8x4096x4096_0_1_2_3
    (broadcastInDim S2x8x4096x1 ![0, 1, 2] bcast_S2x8x4096_S2x8x4096x1_0_1_2
      (Host.reduce FloatOps.maximumf s (constant S_ .f32 0xFF800000#32) reducesTo_S2x8x4096x4096_S2x8x4096_d3 h_S_))))

/-- The weighted values over the sums of the weights. -/
def heads (p : FVec Ideal S2x8x4096x4096 .f32) : FVec Ideal S2x4096x8x64 .f32 :=
  Host.divf (transpose S2x4096x8x64 [0, 3, 1, 2] (Host.dotGeneral dot_S2x4096x8x64_S2x8x4096x4096_S2x8x64x4096_1_3_3_2_02_01 none
      (extf .f32 v bitsLt_bf16_f32) p) transposes_S2x8x64x4096_S2x4096x8x64_0_3_1_2)
    (broadcastInDim S2x4096x8x64 ![0, 1, 2, 3] bcast_S2x4096x8x1_S2x4096x8x64_0_1_2_3
      (transpose S2x4096x8x1 [0, 2, 1, 3] (broadcastInDim S2x8x4096x1 ![0, 1, 2] bcast_S2x8x4096_S2x8x4096x1_0_1_2
        (Host.reduceAdd p (constant S_ .f32 0x00000000#32) reducesTo_S2x8x4096x4096_S2x8x4096_d3 h_S_)) transposes_S2x8x4096x1_S2x4096x8x1_0_2_1_3))

/-- The output projection. -/
def out (o : FVec Ideal S2x4096x8x64 .f32) : FVec Ideal S2x4096x512 .f32 :=
  Host.dotGeneral dot_S2x4096x512_S512x512_S2x4096x512_2_0_01_1_n_n none (shapeCast _ o shapeCasts_S2x4096x8x64_S2x4096x512) (extf .f32 wo bitsLt_bf16_f32)

theorem scores_apply (b : Fin 2) (d : Fin 8) (i j : Fin 4096) :
    scores x wq k (ix4 b d i j)
      = (∑ e : Fin 64, (∑ m : Fin 512, x (ix3 b i m) * wq (ix2 m (col d e))) * k (ix4 b j d e)) * Ideal.ofBits .f32 0x3E000000#32 := by
  pointwise [scores, col]

theorem wts_apply (s : FVec Ideal S2x8x4096x4096 .f32) (b : Fin 2) (d : Fin 8) (i j : Fin 4096) :
    wts s (ix4 b d i j)
      = Ideal.exp (s (ix4 b d i j) - Finset.univ.fold max (Ideal.ofBits .f32 0xFF800000#32) fun j' : Fin 4096 => s (ix4 b d i j')) := by
  pointwise [wts]

theorem heads_apply (p : FVec Ideal S2x8x4096x4096 .f32) (b : Fin 2) (d : Fin 8) (i : Fin 4096) (e : Fin 64) :
    heads v p (ix4 b i d e)
      = Ideal.div (∑ j : Fin 4096, v (ix4 b j d e) * p (ix4 b d i j)) (∑ j : Fin 4096, p (ix4 b d i j)) := by
  pointwise [heads]

theorem out_apply (o : FVec Ideal S2x4096x8x64 .f32) (b : Fin 2) (i : Fin 4096) (n : Fin 512) :
    out wo o (ix3 b i n) = ∑ d : Fin 8, ∑ e : Fin 64, o (ix4 b i d e) * wo (ix2 (col d e) n) := by
  have h : out wo o (ix3 b i n) = ∑ m : Fin 512, o (ix4 b i ⟨m.val / 64, by omega⟩ ⟨m.val % 64, by omega⟩) * wo (ix2 m n) := by
    pointwise [out]
  rw [h, Fin.sum_univ_tiles 8 64 rfl]
  refine Finset.sum_congr rfl fun d _ => Finset.sum_congr rfl fun e _ => congrArg₂ (· * ·) (congrArg o ?_) rfl
  have h1 : (⟨(d.val * 64 + e.val) / 64, by omega⟩ : Fin 8) = d := Fin.ext (by show (d.val * 64 + e.val) / 64 = d.val; omega)
  have h2 : (⟨(d.val * 64 + e.val) % 64, by omega⟩ : Fin 64) = e := Fin.ext (by show (d.val * 64 + e.val) % 64 = e.val; omega)
  exact congrArg₂ (fun d e => ix4 b i d e) h1 h2

/-- The reference's result as the composition of its four stages. -/
def result : FVec Ideal S2x4096x512 .f32 := out wo (heads v (wts (scores x wq k)))

/-- The reference's run: its result is `result` of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Whole

end
-- ==== Proof.Softmax.lean ====
/-
# Weighted means with exponential weights, over the extended reals

Subtracting another finite number from the scores leaves the weighted mean as it is, whatever the values are.
-/
module

public import Idealize.ShloMosaic.Lib.Pointwise

@[expose] public section

noncomputable section

namespace Cert.Softmax

open Idealize.ShloMosaic

/-! ## Finite extended reals -/

/-- The extended real is a real number. -/
def IsReal (e : EReal) : Prop := ∃ r : ℝ, e = (r : EReal)

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.sum {ι : Type} [Fintype ι] {f : ι → EReal} (h : ∀ i, IsReal (f i)) : IsReal (∑ i, f i) := by
  choose r hr using h
  refine Finset.sum_induction f IsReal ?_ ⟨0, rfl⟩ fun i _ => ⟨r i, hr i⟩
  rintro _ _ ⟨a, rfl⟩ ⟨b, rfl⟩
  exact ⟨a + b, (EReal.coe_add a b).symm⟩

/-- A number whose absolute value is below infinity is real. -/
theorem isReal_of_abs_lt {e : EReal} (h : max e (-e) < ⊤) : IsReal e := by
  have h1 : e ≠ ⊤ := fun he => by rw [he] at h; exact absurd h (by simp)
  have h2 : e ≠ ⊥ := fun he => by rw [he] at h; exact absurd h (by simp)
  exact ⟨e.toReal, (EReal.coe_toReal h1 h2).symm⟩

/-- The greatest of finitely many real numbers, at least one, is real. -/
theorem isReal_fold_max {ι : Type} [Fintype ι] (f : ι → EReal) (i₀ : ι) (h : ∀ i, IsReal (f i)) :
    IsReal (Finset.univ.fold max ⊥ f) := by
  have h1 : Finset.univ.fold max ⊥ f < ⊤ := by
    rw [Finset.fold_max_lt]
    refine ⟨bot_lt_top, fun i _ => ?_⟩
    obtain ⟨r, hr⟩ := h i
    rw [hr]; exact EReal.coe_lt_top r
  have h2 : ⊥ < Finset.univ.fold max ⊥ f := by
    obtain ⟨r, hr⟩ := h i₀
    refine lt_of_lt_of_le (EReal.bot_lt_coe r) ?_
    rw [Finset.le_fold_max]
    exact Or.inr ⟨i₀, Finset.mem_univ _, by rw [hr]⟩
  exact ⟨_, (EReal.coe_toReal h1.ne h2.ne').symm⟩

/-! ## The printed constants -/

/-- A pattern whose exponent is not all ones denotes a real number. -/
theorem isReal_ieee (e m : ℕ) {w : ℕ} (b : BitVec w) (h : (b.extractLsb' m e).toNat ≠ 2 ^ e - 1) : IsReal (Ideal.ieee e m b) := by
  unfold Ideal.ieee
  simp only [if_neg h]
  split
  · exact ⟨_, rfl⟩
  · exact ⟨_, rfl⟩

theorem isReal_eighth : IsReal (Ideal.ofBits .f32 0x3E000000#32) :=
  isReal_ieee 8 23 0x3E000000#32 (by decide)

theorem isReal_sixteen : IsReal (Ideal.ofBits .f32 0x41800000#32) :=
  isReal_ieee 8 23 0x41800000#32 (by decide)

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

/-! ## The shift -/

/-- A nonnegative real factor goes into a sum of extended reals. -/
theorem mul_sum_of_nonneg {ι : Type} (s : Finset ι) (t : ℝ) (ht : 0 ≤ t) (f : ι → EReal) :
    (t : EReal) * ∑ i ∈ s, f i = ∑ i ∈ s, (t : EReal) * f i := by
  classical
  induction s using Finset.induction_on with
  | empty => simp
  | insert a s ha ih =>
    rw [Finset.sum_insert ha, Finset.sum_insert ha, EReal.left_distrib_of_nonneg_of_ne_top (EReal.coe_nonneg.mpr ht) (EReal.coe_ne_top t), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a difference of reals. -/
theorem exp_sub (s a : ℝ) : Ideal.exp ((s : EReal) - (a : EReal)) = ((Real.exp (s - a) : ℝ) : EReal) := by
  rw [← EReal.coe_sub]; rfl

/-- The weighted mean of the values `v` with the weights `exp (s - a)` does not depend on `a`. -/
theorem mean_shift {ι : Type} [Fintype ι] [Nonempty ι] (s : ι → EReal) (v : ι → EReal) (a m : EReal)
    (hs : ∀ j, IsReal (s j)) (ha : IsReal a) (hm : IsReal m) :
    Ideal.div (∑ j, Ideal.exp (s j - a) * v j) (∑ j, Ideal.exp (s j - a))
      = Ideal.div (∑ j, v j * Ideal.exp (s j - m)) (∑ j, Ideal.exp (s j - m)) := by
  choose r hr using hs
  obtain ⟨a, rfl⟩ := ha
  obtain ⟨m, rfl⟩ := hm
  simp only [hr, exp_sub]
  have ht : 0 < Real.exp (m - a) := Real.exp_pos _
  have hw : ∀ j, Real.exp (r j - a) = Real.exp (m - a) * Real.exp (r j - m) := fun j => by
    rw [← Real.exp_add]; congr 1; ring
  have hL : 0 < ∑ j, Real.exp (r j - m) := Finset.sum_pos (fun j _ => Real.exp_pos _) Finset.univ_nonempty
  have hden : ∑ j, ((Real.exp (r j - a) : ℝ) : EReal) = ((Real.exp (m - a) * ∑ j, Real.exp (r j - m) : ℝ) : EReal) := by
    rw [← coe_sum, Finset.mul_sum]
    simp only [hw]
  have hnum : ∑ j, ((Real.exp (r j - a) : ℝ) : EReal) * v j = ((Real.exp (m - a) : ℝ) : EReal) * ∑ j, v j * ((Real.exp (r j - m) : ℝ) : EReal) := by
    rw [mul_sum_of_nonneg _ _ ht.le]
    refine Finset.sum_congr rfl fun j _ => ?_
    rw [hw, EReal.coe_mul, mul_assoc, mul_comm (v j)]
  rw [hden, hnum, ← coe_sum, Ideal.div_coe (mul_pos ht hL).ne', Ideal.div_coe hL.ne', mul_comm (((Real.exp (m - a) : ℝ) : EReal)), mul_assoc,
    ← EReal.coe_mul]
  congr 2
  field_simp

end Cert.Softmax

end
-- ==== Proof.Equation.lean ====
/-
# The kernel's result is its block of the reference's

For real inputs, projections and keys (the values and the output weights are free), every entry of a device's result is
the entry of the whole attention at the device's own rows.
-/
module

public import proofs.«01_k».proof.Proof.KernelValue
public import proofs.«01_k».proof.Proof.ReferenceValue
public import proofs.«01_k».proof.Proof.Softmax
public import Idealize.ShloMosaic.Lib.Layout

@[expose] public section

noncomputable section

namespace Cert.Equation

open Idealize.ShloMosaic
open Cert.KernelIdeal.Ring (Inputs origin outAt outAt_apply ov wv sv qv)
open Cert.ReferenceIdeal.Whole (result out heads wts scores)
open Cert.Softmax

/-- Row `j` of device `c` in the whole array. -/
def row (c : Fin 32) (j : Fin 128) : Fin 4096 := ⟨c.val * 128 + j.val, by omega⟩

/-- The 32 slots of a device hold the chunks of all 32 devices. -/
theorem sum_origin (c : Fin 32) (f : Fin 32 → EReal) : ∑ h : Fin 32, f (origin c h.val) = ∑ c' : Fin 32, f c' := by
  have hinj : Function.Injective fun h : Fin 32 => (origin c h.val : Fin 32) := fun h h' e => by
    have e' : (c.val + (32 - h.val % 32)) % 32 = (c.val + (32 - h'.val % 32)) % 32 := congrArg Fin.val e
    apply Fin.ext; omega
  exact Fintype.sum_bijective _ (Finite.injective_iff_bijective.mp hinj) _ _ fun _ => rfl

/-- A sum over all rows, slot by slot. -/
theorem sum_rows (c : Fin 32) (f : Fin 4096 → EReal) :
    ∑ h : Fin 32, ∑ j : Fin 128, f (row (origin c h.val) j) = ∑ J : Fin 4096, f J := by
  rw [sum_origin c fun c' => ∑ j : Fin 128, f (row c' j), Fin.sum_univ_tiles 32 128 rfl]
  rfl

variable (I : Inputs Ideal) (x : FVec Ideal Cert.ReferenceIdeal.S2x4096x512 .bf16) (wq wo : FVec Ideal Cert.ReferenceIdeal.S512x512 .bf16)
  (k v : FVec Ideal Cert.ReferenceIdeal.S2x4096x8x64 .bf16)

/-- The devices hold their blocks of the whole arrays. -/
structure Blocks : Prop where
  hx : ∀ c b i n, I.x c (ix3 b i n) = x (ix3 b (row c i) n)
  hwq : ∀ c, I.wq c = wq
  hwo : ∀ c, I.wo c = wo
  hk : ∀ c b j d e, I.k c (ix4 b j d e) = k (ix4 b (row c j) d e)
  hv : ∀ c b j d e, I.v c (ix4 b j d e) = v (ix4 b (row c j) d e)

variable {I x wq wo k v}

theorem col_eq (d : Fin 8) (e : Fin 64) : Cert.ReferenceIdeal.Whole.col d e = Cert.KernelIdeal.Ring.col d e :=
  Fin.ext (by show d.val * 64 + e.val = 64 * d.val + e.val; omega)

/-- A device's scores are the whole scores at its own rows. -/
theorem sv_eq (H : Blocks I x wq wo k v) (c h : Fin 32) (b : Fin 2) (d : Fin 8) (i j : Fin 128) :
    sv I c h b d i j = scores x wq k (ix4 b d (row c i) (row (origin c h.val) j)) := by
  rw [Cert.ReferenceIdeal.Whole.scores_apply]
  unfold sv qv
  simp only [H.hx, H.hwq, H.hk, col_eq]

/-- The scores are real. -/
theorem isReal_scores (hx : ∀ i, IsReal (x i)) (hwq : ∀ i, IsReal (wq i)) (hk : ∀ i, IsReal (k i)) (b : Fin 2) (d : Fin 8) (i j : Fin 4096) :
    IsReal (scores x wq k (ix4 b d i j)) := by
  rw [Cert.ReferenceIdeal.Whole.scores_apply]
  exact (IsReal.sum fun e => (IsReal.sum fun m => (hx _).mul (hwq _)).mul (hk _)).mul isReal_eighth

/-- One head's attention on one device is the whole attention at its rows. -/
theorem ov_eq (H : Blocks I x wq wo k v) (hx : ∀ i, IsReal (x i)) (hwq : ∀ i, IsReal (wq i)) (hk : ∀ i, IsReal (k i))
    (c : Fin 32) (b : Fin 2) (d : Fin 8) (i : Fin 128) (e : Fin 64) :
    ov I c b d i e = heads v (wts (scores x wq k)) (ix4 b (row c i) d e) := by
  rw [Cert.ReferenceIdeal.Whole.heads_apply]
  simp only [Cert.ReferenceIdeal.Whole.wts_apply, ofBits_neg_inf]
  unfold ov wv
  simp only [sv_eq H, H.hv]
  rw [sum_rows c fun J => Ideal.exp (scores x wq k (ix4 b d (row c i) J) - Ideal.ofBits .f32 0x41800000#32) * v (ix4 b J d e),
    sum_rows c fun J => Ideal.exp (scores x wq k (ix4 b d (row c i) J) - Ideal.ofBits .f32 0x41800000#32)]
  exact mean_shift _ _ _ _ (isReal_scores hx hwq hk b d _) isReal_sixteen (isReal_fold_max _ 0 (isReal_scores hx hwq hk b d _))

/-- The kernel's result on device `c` is block `c` of the reference's. -/
theorem outAt_eq (H : Blocks I x wq wo k v) (hx : ∀ i, IsReal (x i)) (hwq : ∀ i, IsReal (wq i)) (hk : ∀ i, IsReal (k i))
    (c : Fin 32) (b : Fin 2) (i : Fin 128) (n : Fin 512) :
    outAt I c (ix3 b i n) = result x wq k v wo (ix3 b (row c i) n) := by
  unfold result
  rw [outAt_apply, Cert.ReferenceIdeal.Whole.out_apply]
  simp only [ov_eq H hx hwq hk, H.hwo, col_eq]

end Cert.Equation

end
-- ==== Proof.Finite.lean ====
/-
# The precondition read back: the inputs and the keys are real numbers
-/
module

public import proofs.«01_k».proof.Defs
public import proofs.«01_k».proof.Proof.Softmax
public import proofs.«01_k».proof.Proof.Gen.Pre_finite_scores_KernelIdeal
public import Idealize.ShloMosaic.Lib.ReduceAll

@[expose] public section

noncomputable section

namespace Cert.Pre_finite_scores_KernelIdeal

open Idealize.ShloMosaic Cert.Softmax

/-- An element whose comparison against infinity is 1 is real. -/
theorem isReal_of_cmp {e : EReal} (h : Ideal.cmp .olt (max e (-e)) (Ideal.ofBits .f32 0x7F800000#32) = 1#1) : IsReal e := by
  rw [ofBits_inf] at h
  refine isReal_of_abs_lt ?_
  by_contra hn
  simp [Ideal.cmp, hn] at h

/-- The predicate's three parts, element by element. -/
theorem isReal_of_pre [Facts] (x : FVec Ideal S2x128x512 .bf16) (wq : FVec Ideal S512x512 .bf16) (k v : FVec Ideal S2x128x8x64 .bf16) (wo : FVec Ideal S512x512 .bf16)
    (h : fn (F := Ideal) x wq k v wo = fun _ => 1#1) :
    (∀ i, IsReal (x i)) ∧ (∀ i, IsReal (wq i)) ∧ (∀ i, IsReal (k i)) := by
  have h0 := congrFun h (Shape.Idx.first Facts.h_S_)
  haveI : Subsingleton S_.Idx := ⟨fun a b => funext fun i => i.elim0⟩
  obtain ⟨h12, h3⟩ := IntOp.andi_eq_one.1 h0
  obtain ⟨h1, h2⟩ := IntOp.andi_eq_one.1 h12
  exact ⟨fun i => isReal_of_cmp (Host.reduce_andi_all _ _ _ _ _ h1 i), fun i => isReal_of_cmp (Host.reduce_andi_all _ _ _ _ _ h2 i),
    fun i => isReal_of_cmp (Host.reduce_andi_all _ _ _ _ _ h3 i)⟩

end Cert.Pre_finite_scores_KernelIdeal

end
-- ==== Proof.Claims.lean ====
/-
# The value claim

Every device's result is its block of the reference's result.
-/
module

public import proofs.«01_k».proof.Defs
public import proofs.«01_k».proof.Proof.Frames
public import proofs.«01_k».proof.Proof.Equation
public import proofs.«01_k».proof.Proof.Finite
public import proofs.«01_k».proof.Proof.Gen.Pre_finite_scores_KernelIdeal
public import proofs.«01_k».proof.Proof.Gen.Pre_finite_scores_ReferenceIdeal

@[expose] public section

noncomputable section

namespace Cert.Claims

open Idealize.ShloMosaic Idealize.ShloMosaic.TcCoe Idealize.SL.Sem
open Cert.Softmax Cert.Equation

/-! ## Blocks by rows -/

theorem block3_apply {α : Type} (c : Fin 32) (f : (⟨3, ![2, 4096, 512]⟩ : Shape).Idx → α) (b : Fin 2) (i : Fin 128) (n : Fin 512) :
    Layout.block ⟨3, ![2, 128, 512]⟩ ⟨3, ![2, 4096, 512]⟩ 1 32 c f (by decide) (ix3 b i n) = f (ix3 b (row c i) n) := by
  rw [Layout.block_apply]
  refine congrArg f (funext fun a => ?_)
  fin_cases a <;> apply Fin.ext <;> rfl

theorem block4_apply {α : Type} (c : Fin 32) (f : (⟨4, ![2, 4096, 8, 64]⟩ : Shape).Idx → α) (b : Fin 2) (j : Fin 128) (d : Fin 8) (e : Fin 64) :
    Layout.block ⟨4, ![2, 128, 8, 64]⟩ ⟨4, ![2, 4096, 8, 64]⟩ 1 32 c f (by decide) (ix4 b j d e) = f (ix4 b (row c j) d e) := by
  rw [Layout.block_apply]
  refine congrArg f (funext fun a => ?_)
  fin_cases a <;> apply Fin.ext <;> rfl

/-- Every row is some device's. -/
theorem row_surj (J : Fin 4096) : row ⟨J.val / 128, by omega⟩ ⟨J.val % 128, by omega⟩ = J :=
  Fin.ext (by show J.val / 128 * 128 + J.val % 128 = J.val; omega)

/-- What holds of every device's block of an array holds of the array. -/
theorem forall_block3 {p : EReal → Prop} (f : (⟨3, ![2, 4096, 512]⟩ : Shape).Idx → EReal)
    (h : ∀ c i, p (Layout.block ⟨3, ![2, 128, 512]⟩ ⟨3, ![2, 4096, 512]⟩ 1 32 c f (by decide) i)) (i) : p (f i) := by
  obtain ⟨b, J, n, rfl⟩ : ∃ (b : Fin 2) (J : Fin 4096) (n : Fin 512), i = ix3 b J n := ⟨i 0, i 1, i 2, eq_ix3 i⟩
  rw [← row_surj J, ← block3_apply _ f]
  exact h _ _

theorem forall_block4 {p : EReal → Prop} (f : (⟨4, ![2, 4096, 8, 64]⟩ : Shape).Idx → EReal)
    (h : ∀ c i, p (Layout.block ⟨4, ![2, 128, 8, 64]⟩ ⟨4, ![2, 4096, 8, 64]⟩ 1 32 c f (by decide) i)) (i) : p (f i) := by
  obtain ⟨b, J, d, e, rfl⟩ : ∃ (b : Fin 2) (J : Fin 4096) (d : Fin 8) (e : Fin 64), i = ix4 b J d e := ⟨i 0, i 1, i 2, i 3, eq_ix4 i⟩
  rw [← row_surj J, ← block4_apply _ f]
  exact h _ _

/-- The value claim. -/
theorem algebraic : Cert.algebraic_KernelIdeal_ReferenceIdeal_pre_finite_scores_KernelIdeal := by
  intro m g m' g' hpre hb
  refine ⟨Cert.ReferenceIdeal.Whole.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨?_, (h.1 c).2⟩) (Cert.KernelIdeal.Ring.run_arrays (F := Ideal) m g)
    refine (h.1 c).1.trans (funext fun i => ?_)
    have hreal := fun c => Cert.Pre_finite_scores_KernelIdeal.isReal_of_pre _ _ _ _ _ (hpre c)
    obtain ⟨b, j, n, rfl⟩ : ∃ (b : Fin 2) (j : Fin 128) (n : Fin 512), i = ix3 b j n := ⟨i 0, i 1, i 2, eq_ix3 i⟩
    refine Eq.trans ?_ (block3_apply c _ b j n).symm
    refine outAt_eq ⟨?_, ?_, ?_, ?_, ?_⟩ ?_ ?_ ?_ c b j n
    · intro c b i n
      rw [Cert.KernelIdeal.Ring.inputs_eq]
      exact (congrFun (hb c).1 _).trans (block3_apply c _ b i n)
    · intro c
      rw [Cert.KernelIdeal.Ring.inputs_eq]
      exact (hb c).2.1
    · intro c
      rw [Cert.KernelIdeal.Ring.inputs_eq]
      exact (hb c).2.2.2.2
    · intro c b j d e
      rw [Cert.KernelIdeal.Ring.inputs_eq]
      exact (congrFun (hb c).2.2.1 _).trans (block4_apply c _ b j d e)
    · intro c b j d e
      rw [Cert.KernelIdeal.Ring.inputs_eq]
      exact (congrFun (hb c).2.2.2.1 _).trans (block4_apply c _ b j d e)
    · exact forall_block3 _ fun c i => by rw [← (hb c).1]; exact (hreal c).1 i
    · intro i; rw [← (hb 0).2.1]; exact (hreal 0).2.1 i
    · exact forall_block4 _ fun c i => by rw [← (hb c).2.2.1]; exact (hreal c).2.2 i
  · exact (θ_run Cert.ReferenceIdeal.defs _ _).mono (fun r h => h 0) (Cert.ReferenceIdeal.Whole.run m' g')

/-- The idealized kernel's frame, stated under the precondition. -/
theorem frame_pi_pre : Cert.quiescent_KernelIdeal_pre_finite_scores_KernelIdeal := fun m ρ _ => Cert.Frames.frame_pi m ρ trivial

/-- The reference's frame, stated under the precondition. -/
theorem frame_ri_pre : Cert.quiescent_ReferenceIdeal_pre_finite_scores_ReferenceIdeal := fun m ρ _ => Cert.Frames.frame_ri m ρ trivial

end Cert.Claims

end
-- ==== Proof.lean ====
/-
# Attention over a ring of 32 devices: the claim
-/
module

public import proofs.«01_k».proof.Defs
public import proofs.«01_k».proof.Proof.Run
public import proofs.«01_k».proof.Proof.Frames
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal

@[expose] public section

namespace Cert.Proof

/-- The frames of the three programs and the value claim. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    Cert.Frames.frame_p, Cert.Frames.frame_pi, Cert.Claims.frame_pi_pre, Cert.Frames.frame_ri, Cert.Claims.frame_ri_pre, trivial,
    Cert.Claims.algebraic⟩

end Cert.Proof
